-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_counts_drawn [hPre_counts_drawn : Cert.Pre_counts_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_counts_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_counts_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_counts_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_counts_drawn [hPre_counts_drawn : Cert.Pre_counts_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_counts_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_counts_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_counts_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_counts_drawn [hKernelIdeal : Cert.KernelIdeal.Facts] [hPre_counts_drawn : Cert.Pre_counts_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_counts_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_counts_drawn [hReferenceIdeal : Cert.ReferenceIdeal.Facts] [hPre_counts_drawn : Cert.Pre_counts_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_counts_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_counts_drawn [hKernelIdeal : Cert.KernelIdeal.Facts] [hReferenceIdeal : Cert.ReferenceIdeal.Facts] [hPre_counts_drawn : Cert.Pre_counts_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_counts_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v67_0)) (v1 : (c : Dev Cert.KernelIdeal.nD) → Buf (Elt Ideal) ((c.tc : Thread Cert.KernelIdeal.nD Cert.KernelIdeal.τ).loc Cert.KernelIdeal.main_v67_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67_0) = v0 c
          ∧ r.2.mem ((c.tc : Thread Cert.KernelIdeal.nD Cert.KernelIdeal.τ).loc Cert.KernelIdeal.main_v67_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_counts_drawn : Cert.Pre_counts_drawn.Facts),
    quiescent_Kernel (hKernel := hKernel)
    ∧ quiescent_KernelIdeal (hKernelIdeal := hKernelIdeal)
    ∧ quiescent_KernelIdeal_pre_counts_drawn (hKernelIdeal := hKernelIdeal) (hPre_counts_drawn := hPre_counts_drawn)
    ∧ quiescent_ReferenceIdeal (hReferenceIdeal := hReferenceIdeal)
    ∧ quiescent_ReferenceIdeal_pre_counts_drawn (hReferenceIdeal := hReferenceIdeal) (hPre_counts_drawn := hPre_counts_drawn)
    ∧ preserves_Kernel_KernelIdeal
    ∧ algebraic_KernelIdeal_ReferenceIdeal_pre_counts_drawn (hKernelIdeal := hKernelIdeal) (hReferenceIdeal := hReferenceIdeal) (hPre_counts_drawn := hPre_counts_drawn)
-- ==== Pre_counts_drawn.lean ====
abbrev S16384x214 : Shape := ⟨2, ![16384, 214]⟩
abbrev S10x1939 : Shape := ⟨2, ![10, 1939]⟩
abbrev S10 : Shape := ⟨1, ![10]⟩
abbrev S64x10 : Shape := ⟨2, ![64, 10]⟩
abbrev S64 : Shape := ⟨1, ![64]⟩
abbrev S1x10 : Shape := ⟨2, ![1, 10]⟩
abbrev S1 : Shape := ⟨1, ![1]⟩
abbrev S16384x104 : Shape := ⟨2, ![16384, 104]⟩
abbrev S_ : Shape := ⟨0, ![]⟩
abbrev S16384x102 : Shape := ⟨2, ![16384, 102]⟩
abbrev S10x1931 : Shape := ⟨2, ![10, 1931]⟩

class Facts : Prop where
  slices_S16384x214_S16384x104_0_0 : S16384x214.Slices ![0, 0] S16384x104
  bcast_S_S16384x104 : S_.BroadcastsInDim S16384x104 (![] : Fin 0 → Fin S16384x104.rank)
  slices_S16384x214_S16384x102_0_112 : S16384x214.Slices ![0, 112] S16384x102
  bcast_S_S16384x102 : S_.BroadcastsInDim S16384x102 (![] : Fin 0 → Fin S16384x102.rank)
  slices_S10x1939_S10x1931_0_0 : S10x1939.Slices ![0, 0] S10x1931
  bcast_S_S10x1931 : S_.BroadcastsInDim S10x1931 (![] : Fin 0 → Fin S10x1931.rank)

variable [Facts]

def fn_part1 {F : FTy → Type} [FloatOps F] (main_arg1 : FVec F S10x1939 .f32) (main_v8 : IVec S16384x104 1) (main_v17 : IVec S16384x102 1) : IVec S16384x104 1 × IVec S16384x102 1 × IVec S10x1931 1 :=
  let main_v18 : FVec F S10x1931 .f32 := (extractStridedSlice S10x1931 ![0, 0] · slices_S10x1939_S10x1931_0_0) main_arg1
  let main_v19 : FVec F S10x1931 .f32 := Host.absf main_v18
  let main_cst_5 : FVec F S_ .f32 := constant S_ .f32 0x7F800000#32
  let main_v20 : FVec F S10x1931 .f32 := broadcastInDim S10x1931 ![] bcast_S_S10x1931 main_cst_5
  let main_v21 : IVec S10x1931 1 := cmpf .olt main_v19 main_v20
  (main_v8, main_v17, main_v21)

def fn {F : FTy → Type} [FloatOps F] (main_arg0 : FVec F S16384x214 .f32) (main_arg1 : FVec F S10x1939 .f32) (main_arg2 : FVec F S10 .f32) (main_arg3 : FVec F S64x10 .f32) (main_arg4 : FVec F S64 .f32) (main_arg5 : FVec F S1x10 .f32) (main_arg6 : FVec F S1 .f32) : IVec S16384x104 1 × IVec S16384x102 1 × IVec S10x1931 1 :=
  let main_v0 : FVec F S16384x104 .f32 := (extractStridedSlice S16384x104 ![0, 0] · slices_S16384x214_S16384x104_0_0) main_arg0
  let main_cst : FVec F S_ .f32 := constant S_ .f32 0x00000000#32
  let main_v1 : FVec F S16384x104 .f32 := broadcastInDim S16384x104 ![] bcast_S_S16384x104 main_cst
  let main_v2 : IVec S16384x104 1 := cmpf .oeq main_v0 main_v1
  let main_cst_0 : FVec F S_ .f32 := constant S_ .f32 0x3F800000#32
  let main_v3 : FVec F S16384x104 .f32 := broadcastInDim S16384x104 ![] bcast_S_S16384x104 main_cst_0
  let main_v4 : IVec S16384x104 1 := cmpf .oeq main_v0 main_v3
  let main_v5 : IVec S16384x104 1 := ori main_v2 main_v4
  let main_cst_1 : FVec F S_ .f32 := constant S_ .f32 0x40000000#32
  let main_v6 : FVec F S16384x104 .f32 := broadcastInDim S16384x104 ![] bcast_S_S16384x104 main_cst_1
  let main_v7 : IVec S16384x104 1 := cmpf .oeq main_v0 main_v6
  let main_v8 : IVec S16384x104 1 := ori main_v5 main_v7
  let main_v9 : FVec F S16384x102 .f32 := (extractStridedSlice S16384x102 ![0, 112] · slices_S16384x214_S16384x102_0_112) main_arg0
  let main_cst_2 : FVec F S_ .f32 := constant S_ .f32 0x00000000#32
  let main_v10 : FVec F S16384x102 .f32 := broadcastInDim S16384x102 ![] bcast_S_S16384x102 main_cst_2
  let main_v11 : IVec S16384x102 1 := cmpf .oeq main_v9 main_v10
  let main_cst_3 : FVec F S_ .f32 := constant S_ .f32 0x3F800000#32
  let main_v12 : FVec F S16384x102 .f32 := broadcastInDim S16384x102 ![] bcast_S_S16384x102 main_cst_3
  let main_v13 : IVec S16384x102 1 := cmpf .oeq main_v9 main_v12
  let main_v14 : IVec S16384x102 1 := ori main_v11 main_v13
  let main_cst_4 : FVec F S_ .f32 := constant S_ .f32 0x40000000#32
  let main_v15 : FVec F S16384x102 .f32 := broadcastInDim S16384x102 ![] bcast_S_S16384x102 main_cst_4
  let main_v16 : IVec S16384x102 1 := cmpf .oeq main_v9 main_v15
  let main_v17 : IVec S16384x102 1 := ori main_v14 main_v16
  fn_part1 (F := F) main_arg1 main_v8 main_v17
-- ==== Kernel.lean ====
abbrev S16384x214 : Shape := ⟨2, ![16384, 214]⟩
abbrev S10x1939 : Shape := ⟨2, ![10, 1939]⟩
abbrev S10 : Shape := ⟨1, ![10]⟩
abbrev S64x10 : Shape := ⟨2, ![64, 10]⟩
abbrev S64 : Shape := ⟨1, ![64]⟩
abbrev S1x10 : Shape := ⟨2, ![1, 10]⟩
abbrev S1 : Shape := ⟨1, ![1]⟩
abbrev S206 : Shape := ⟨1, ![206]⟩
abbrev S8 : Shape := ⟨1, ![8]⟩
abbrev S_ : Shape := ⟨0, ![]⟩
abbrev S206x1 : Shape := ⟨2, ![206, 1]⟩
abbrev S10x206 : Shape := ⟨2, ![10, 206]⟩
abbrev S214x10 : Shape := ⟨2, ![214, 10]⟩
abbrev S206x10 : Shape := ⟨2, ![206, 10]⟩
abbrev S10x8 : Shape := ⟨2, ![10, 8]⟩
abbrev S8x10 : Shape := ⟨2, ![8, 10]⟩
abbrev S8x1 : Shape := ⟨2, ![8, 1]⟩
abbrev S10x64 : Shape := ⟨2, ![10, 64]⟩
abbrev S1x64 : Shape := ⟨2, ![1, 64]⟩
abbrev S10x1 : Shape := ⟨2, ![10, 1]⟩
abbrev S1x1 : Shape := ⟨2, ![1, 1]⟩
abbrev S16384x64 : Shape := ⟨2, ![16384, 64]⟩
abbrev S16384x1 : Shape := ⟨2, ![16384, 1]⟩
abbrev S2048x214 : Shape := ⟨2, ![2048, 214]⟩
abbrev S2048x64 : Shape := ⟨2, ![2048, 64]⟩
abbrev S2048x1 : Shape := ⟨2, ![2048, 1]⟩
abbrev S2048x10 : Shape := ⟨2, ![2048, 10]⟩

abbrev nBuf : Space → Nat
  | .hbm => 98
  | .vmem => 13
  | .smem => 0
  | _ => 0

abbrev bufTy : (tb : Table) → Fin (tcTables nBuf tb) → BufTy
  | .hbm, ⟨0, _⟩ => ⟨S16384x214, .f32⟩
  | .hbm, ⟨1, _⟩ => ⟨S10x1939, .f32⟩
  | .hbm, ⟨2, _⟩ => ⟨S10, .f32⟩
  | .hbm, ⟨3, _⟩ => ⟨S64x10, .f32⟩
  | .hbm, ⟨4, _⟩ => ⟨S64, .f32⟩
  | .hbm, ⟨5, _⟩ => ⟨S1x10, .f32⟩
  | .hbm, ⟨6, _⟩ => ⟨S1, .f32⟩
  | .hbm, ⟨7, _⟩ => ⟨S206, .i32⟩
  | .hbm, ⟨8, _⟩ => ⟨S206, .i32⟩
  | .hbm, ⟨9, _⟩ => ⟨S8, .i32⟩
  | .hbm, ⟨10, _⟩ => ⟨S_, .i32⟩
  | .hbm, ⟨11, _⟩ => ⟨S206, .i32⟩
  | .hbm, ⟨12, _⟩ => ⟨S206, .i1⟩
  | .hbm, ⟨13, _⟩ => ⟨S_, .i32⟩
  | .hbm, ⟨14, _⟩ => ⟨S206, .i32⟩
  | .hbm, ⟨15, _⟩ => ⟨S206, .i32⟩
  | .hbm, ⟨16, _⟩ => ⟨S206, .i32⟩
  | .hbm, ⟨17, _⟩ => ⟨S206x1, .i32⟩
  | .hbm, ⟨18, _⟩ => ⟨S10x206, .f32⟩
  | .hbm, ⟨19, _⟩ => ⟨S_, .i32⟩
  | .hbm, ⟨20, _⟩ => ⟨S206, .i32⟩
  | .hbm, ⟨21, _⟩ => ⟨S206, .i32⟩
  | .hbm, ⟨22, _⟩ => ⟨S_, .i32⟩
  | .hbm, ⟨23, _⟩ => ⟨S206, .i32⟩
  | .hbm, ⟨24, _⟩ => ⟨S206, .i1⟩
  | .hbm, ⟨25, _⟩ => ⟨S_, .i32⟩
  | .hbm, ⟨26, _⟩ => ⟨S206, .i32⟩
  | .hbm, ⟨27, _⟩ => ⟨S206, .i32⟩
  | .hbm, ⟨28, _⟩ => ⟨S206, .i32⟩
  | .hbm, ⟨29, _⟩ => ⟨S206x1, .i32⟩
  | .hbm, ⟨30, _⟩ => ⟨S10x206, .f32⟩
  | .hbm, ⟨31, _⟩ => ⟨S_, .i32⟩
  | .hbm, ⟨32, _⟩ => ⟨S206, .i32⟩
  | .hbm, ⟨33, _⟩ => ⟨S206, .i32⟩
  | .hbm, ⟨34, _⟩ => ⟨S_, .i32⟩
  | .hbm, ⟨35, _⟩ => ⟨S206, .i32⟩
  | .hbm, ⟨36, _⟩ => ⟨S206, .i1⟩
  | .hbm, ⟨37, _⟩ => ⟨S_, .i32⟩
  | .hbm, ⟨38, _⟩ => ⟨S206, .i32⟩
  | .hbm, ⟨39, _⟩ => ⟨S206, .i32⟩
  | .hbm, ⟨40, _⟩ => ⟨S206, .i32⟩
  | .hbm, ⟨41, _⟩ => ⟨S206x1, .i32⟩
  | .hbm, ⟨42, _⟩ => ⟨S10x206, .f32⟩
  | .hbm, ⟨43, _⟩ => ⟨S10x206, .f32⟩
  | .hbm, ⟨44, _⟩ => ⟨S_, .f32⟩
  | .hbm, ⟨45, _⟩ => ⟨S10x206, .f32⟩
  | .hbm, ⟨46, _⟩ => ⟨S10x206, .f32⟩
  | .hbm, ⟨47, _⟩ => ⟨S10x206, .f32⟩
  | .hbm, ⟨48, _⟩ => ⟨S10x206, .f32⟩
  | .hbm, ⟨49, _⟩ => ⟨S_, .f32⟩
  | .hbm, ⟨50, _⟩ => ⟨S10x206, .f32⟩
  | .hbm, ⟨51, _⟩ => ⟨S10x206, .f32⟩
  | .hbm, ⟨52, _⟩ => ⟨S_, .f32⟩
  | .hbm, ⟨53, _⟩ => ⟨S214x10, .f32⟩
  | .hbm, ⟨54, _⟩ => ⟨S_, .f32⟩
  | .hbm, ⟨55, _⟩ => ⟨S214x10, .f32⟩
  | .hbm, ⟨56, _⟩ => ⟨S10x206, .f32⟩
  | .hbm, ⟨57, _⟩ => ⟨S206x10, .f32⟩
  | .hbm, ⟨58, _⟩ => ⟨S_, .i32⟩
  | .hbm, ⟨59, _⟩ => ⟨S206, .i32⟩
  | .hbm, ⟨60, _⟩ => ⟨S206, .i1⟩
  | .hbm, ⟨61, _⟩ => ⟨S_, .i32⟩
  | .hbm, ⟨62, _⟩ => ⟨S206, .i32⟩
  | .hbm, ⟨63, _⟩ => ⟨S206, .i32⟩
  | .hbm, ⟨64, _⟩ => ⟨S206, .i32⟩
  | .hbm, ⟨65, _⟩ => ⟨S206x1, .i32⟩
  | .hbm, ⟨66, _⟩ => ⟨S214x10, .f32⟩
  | .hbm, ⟨67, _⟩ => ⟨S206x10, .f32⟩
  | .hbm, ⟨68, _⟩ => ⟨S_, .i32⟩
  | .hbm, ⟨69, _⟩ => ⟨S206, .i32⟩
  | .hbm, ⟨70, _⟩ => ⟨S206, .i1⟩
  | .hbm, ⟨71, _⟩ => ⟨S_, .i32⟩
  | .hbm, ⟨72, _⟩ => ⟨S206, .i32⟩
  | .hbm, ⟨73, _⟩ => ⟨S206, .i32⟩
  | .hbm, ⟨74, _⟩ => ⟨S206, .i32⟩
  | .hbm, ⟨75, _⟩ => ⟨S206x1, .i32⟩
  | .hbm, ⟨76, _⟩ => ⟨S214x10, .f32⟩
  | .hbm, ⟨77, _⟩ => ⟨S10x8, .f32⟩
  | .hbm, ⟨78, _⟩ => ⟨S8x10, .f32⟩
  | .hbm, ⟨79, _⟩ => ⟨S_, .i32⟩
  | .hbm, ⟨80, _⟩ => ⟨S8, .i32⟩
  | .hbm, ⟨81, _⟩ => ⟨S8, .i1⟩
  | .hbm, ⟨82, _⟩ => ⟨S_, .i32⟩
  | .hbm, ⟨83, _⟩ => ⟨S8, .i32⟩
  | .hbm, ⟨84, _⟩ => ⟨S8, .i32⟩
  | .hbm, ⟨85, _⟩ => ⟨S8, .i32⟩
  | .hbm, ⟨86, _⟩ => ⟨S8x1, .i32⟩
  | .hbm, ⟨87, _⟩ => ⟨S214x10, .f32⟩
  | .hbm, ⟨88, _⟩ => ⟨S_, .f32⟩
  | .hbm, ⟨89, _⟩ => ⟨S10, .f32⟩
  | .hbm, ⟨90, _⟩ => ⟨S10, .f32⟩
  | .hbm, ⟨91, _⟩ => ⟨S1x10, .f32⟩
  | .hbm, ⟨92, _⟩ => ⟨S10x64, .f32⟩
  | .hbm, ⟨93, _⟩ => ⟨S1x64, .f32⟩
  | .hbm, ⟨94, _⟩ => ⟨S10x1, .f32⟩
  | .hbm, ⟨95, _⟩ => ⟨S1x1, .f32⟩
  | .hbm, ⟨96, _⟩ => ⟨S16384x64, .f32⟩
  | .hbm, ⟨97, _⟩ => ⟨S16384x1, .f32⟩
  | .local _ .vmem, ⟨0, _⟩ => ⟨S2048x214, .f32⟩
  | .local _ .vmem, ⟨1, _⟩ => ⟨S2048x214, .f32⟩
  | .local _ .vmem, ⟨2, _⟩ => ⟨S214x10, .f32⟩
  | .local _ .vmem, ⟨3, _⟩ => ⟨S214x10, .f32⟩
  | .local _ .vmem, ⟨4, _⟩ => ⟨S1x10, .f32⟩
  | .local _ .vmem, ⟨5, _⟩ => ⟨S10x64, .f32⟩
  | .local _ .vmem, ⟨6, _⟩ => ⟨S1x64, .f32⟩
  | .local _ .vmem, ⟨7, _⟩ => ⟨S10x1, .f32⟩
  | .local _ .vmem, ⟨8, _⟩ => ⟨S1x1, .f32⟩
  | .local _ .vmem, ⟨9, _⟩ => ⟨S2048x64, .f32⟩
  | .local _ .vmem, ⟨10, _⟩ => ⟨S2048x64, .f32⟩
  | .local _ .vmem, ⟨11, _⟩ => ⟨S2048x1, .f32⟩
  | .local _ .vmem, ⟨12, _⟩ => ⟨S2048x1, .f32⟩
  | _, _ => ⟨S16384x214, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_c_2 : Ref sig .tc := ⟨.hbm, 10, rfl⟩
abbrev main_v0 : Ref sig .tc := ⟨.hbm, 11, rfl⟩
abbrev main_v1 : Ref sig .tc := ⟨.hbm, 12, rfl⟩
abbrev main_c_3 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_4 : Ref sig .tc := ⟨.hbm, 19, rfl⟩
abbrev main_v7 : Ref sig .tc := ⟨.hbm, 20, rfl⟩
abbrev main_v8 : Ref sig .tc := ⟨.hbm, 21, rfl⟩
abbrev main_c_5 : Ref sig .tc := ⟨.hbm, 22, rfl⟩
abbrev main_v9 : Ref sig .tc := ⟨.hbm, 23, rfl⟩
abbrev main_v10 : Ref sig .tc := ⟨.hbm, 24, rfl⟩
abbrev main_c_6 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_7 : Ref sig .tc := ⟨.hbm, 31, rfl⟩
abbrev main_v16 : Ref sig .tc := ⟨.hbm, 32, rfl⟩
abbrev main_v17 : Ref sig .tc := ⟨.hbm, 33, rfl⟩
abbrev main_c_8 : Ref sig .tc := ⟨.hbm, 34, rfl⟩
abbrev main_v18 : Ref sig .tc := ⟨.hbm, 35, rfl⟩
abbrev main_v19 : Ref sig .tc := ⟨.hbm, 36, rfl⟩
abbrev main_c_9 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_10 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_cst_12 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_13 : Ref sig .tc := ⟨.hbm, 58, rfl⟩
abbrev main_v36 : Ref sig .tc := ⟨.hbm, 59, rfl⟩
abbrev main_v37 : Ref sig .tc := ⟨.hbm, 60, rfl⟩
abbrev main_c_14 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_c_15 : Ref sig .tc := ⟨.hbm, 68, rfl⟩
abbrev main_v44 : Ref sig .tc := ⟨.hbm, 69, rfl⟩
abbrev main_v45 : Ref sig .tc := ⟨.hbm, 70, rfl⟩
abbrev main_c_16 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_17 : Ref sig .tc := ⟨.hbm, 79, rfl⟩
abbrev main_v53 : Ref sig .tc := ⟨.hbm, 80, rfl⟩
abbrev main_v54 : Ref sig .tc := ⟨.hbm, 81, rfl⟩
abbrev main_c_18 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_19 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67_0 : Ref sig .tc := ⟨.hbm, 96, rfl⟩
abbrev main_v67_1 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x214 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S214x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S214x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S10x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S16384x214 : Shape := ⟨2, ![16384, 214]⟩
abbrev S10x1939 : Shape := ⟨2, ![10, 1939]⟩
abbrev S10 : Shape := ⟨1, ![10]⟩
abbrev S64x10 : Shape := ⟨2, ![64, 10]⟩
abbrev S64 : Shape := ⟨1, ![64]⟩
abbrev S1x10 : Shape := ⟨2, ![1, 10]⟩
abbrev S1 : Shape := ⟨1, ![1]⟩
abbrev S206 : Shape := ⟨1, ![206]⟩
abbrev S206x20 : Shape := ⟨2, ![206, 20]⟩
abbrev S8 : Shape := ⟨1, ![8]⟩
abbrev S_ : Shape := ⟨0, ![]⟩
abbrev S206x1 : Shape := ⟨2, ![206, 1]⟩
abbrev S1x1 : Shape := ⟨2, ![1, 1]⟩
abbrev S16384x206 : Shape := ⟨2, ![16384, 206]⟩
abbrev S1x206x20 : Shape := ⟨3, ![1, 206, 20]⟩
abbrev S16384x206x1 : Shape := ⟨3, ![16384, 206, 1]⟩
abbrev S16384x206x20 : Shape := ⟨3, ![16384, 206, 20]⟩
abbrev S1x206 : Shape := ⟨2, ![1, 206]⟩
abbrev S16384x1931 : Shape := ⟨2, ![16384, 1931]⟩
abbrev S16384 : Shape := ⟨1, ![16384]⟩
abbrev S16384x1 : Shape := ⟨2, ![16384, 1]⟩
abbrev S16384x206x2 : Shape := ⟨3, ![16384, 206, 2]⟩
abbrev S8x1 : Shape := ⟨2, ![8, 1]⟩
abbrev S16384x8 : Shape := ⟨2, ![16384, 8]⟩
abbrev S16384x1939 : Shape := ⟨2, ![16384, 1939]⟩
abbrev S1939x10 : Shape := ⟨2, ![1939, 10]⟩
abbrev S16384x10 : Shape := ⟨2, ![16384, 10]⟩
abbrev S10x64 : Shape := ⟨2, ![10, 64]⟩
abbrev S16384x64 : Shape := ⟨2, ![16384, 64]⟩
abbrev S1x64 : Shape := ⟨2, ![1, 64]⟩
abbrev S10x1 : Shape := ⟨2, ![10, 1]⟩

abbrev nBuf : Space → Nat
  | .hbm => 115
  | .vmem => 0
  | .smem => 0
  | _ => 0

abbrev bufTy : (tb : Table) → Fin (tcTables nBuf tb) → BufTy
  | .hbm, ⟨0, _⟩ => ⟨S16384x214, .f32⟩
  | .hbm, ⟨1, _⟩ => ⟨S10x1939, .f32⟩
  | .hbm, ⟨2, _⟩ => ⟨S10, .f32⟩
  | .hbm, ⟨3, _⟩ => ⟨S64x10, .f32⟩
  | .hbm, ⟨4, _⟩ => ⟨S64, .f32⟩
  | .hbm, ⟨5, _⟩ => ⟨S1x10, .f32⟩
  | .hbm, ⟨6, _⟩ => ⟨S1, .f32⟩
  | .hbm, ⟨7, _⟩ => ⟨S206, .i32⟩
  | .hbm, ⟨8, _⟩ => ⟨S206x20, .f32⟩
  | .hbm, ⟨9, _⟩ => ⟨S206, .i32⟩
  | .hbm, ⟨10, _⟩ => ⟨S8, .i32⟩
  | .hbm, ⟨11, _⟩ => ⟨S_, .i32⟩
  | .hbm, ⟨12, _⟩ => ⟨S206, .i32⟩
  | .hbm, ⟨13, _⟩ => ⟨S206, .i1⟩
  | .hbm, ⟨14, _⟩ => ⟨S_, .i32⟩
  | .hbm, ⟨15, _⟩ => ⟨S206, .i32⟩
  | .hbm, ⟨16, _⟩ => ⟨S206, .i32⟩
  | .hbm, ⟨17, _⟩ => ⟨S206, .i32⟩
  | .hbm, ⟨18, _⟩ => ⟨S206x1, .i32⟩
  | .hbm, ⟨19, _⟩ => ⟨S1, .i32⟩
  | .hbm, ⟨20, _⟩ => ⟨S_, .i32⟩
  | .hbm, ⟨21, _⟩ => ⟨S206x1, .i32⟩
  | .hbm, ⟨22, _⟩ => ⟨S206x1, .i1⟩
  | .hbm, ⟨23, _⟩ => ⟨S1x1, .i32⟩
  | .hbm, ⟨24, _⟩ => ⟨S206x1, .i32⟩
  | .hbm, ⟨25, _⟩ => ⟨S206x1, .i1⟩
  | .hbm, ⟨26, _⟩ => ⟨S206x1, .i1⟩
  | .hbm, ⟨27, _⟩ => ⟨S_, .i1⟩
  | .hbm, ⟨28, _⟩ => ⟨S206, .i1⟩
  | .hbm, ⟨29, _⟩ => ⟨S16384x206, .f32⟩
  | .hbm, ⟨30, _⟩ => ⟨S16384x206, .i1⟩
  | .hbm, ⟨31, _⟩ => ⟨S_, .f32⟩
  | .hbm, ⟨32, _⟩ => ⟨S16384x206, .f32⟩
  | .hbm, ⟨33, _⟩ => ⟨S16384x206, .f32⟩
  | .hbm, ⟨34, _⟩ => ⟨S1x206x20, .f32⟩
  | .hbm, ⟨35, _⟩ => ⟨S16384x206x1, .f32⟩
  | .hbm, ⟨36, _⟩ => ⟨S16384x206x20, .f32⟩
  | .hbm, ⟨37, _⟩ => ⟨S16384x206x20, .f32⟩
  | .hbm, ⟨38, _⟩ => ⟨S16384x206x20, .i1⟩
  | .hbm, ⟨39, _⟩ => ⟨S16384x206x20, .i32⟩
  | .hbm, ⟨40, _⟩ => ⟨S_, .i1⟩
  | .hbm, ⟨41, _⟩ => ⟨S_, .i32⟩
  | .hbm, ⟨42, _⟩ => ⟨S16384x206, .i1⟩
  | .hbm, ⟨43, _⟩ => ⟨S16384x206, .i32⟩
  | .hbm, ⟨44, _⟩ => ⟨S1x206, .i32⟩
  | .hbm, ⟨45, _⟩ => ⟨S16384x206, .i32⟩
  | .hbm, ⟨46, _⟩ => ⟨S16384x206, .i32⟩
  | .hbm, ⟨47, _⟩ => ⟨S_, .f32⟩
  | .hbm, ⟨48, _⟩ => ⟨S16384x1931, .f32⟩
  | .hbm, ⟨49, _⟩ => ⟨S16384, .i32⟩
  | .hbm, ⟨50, _⟩ => ⟨S16384x1, .i32⟩
  | .hbm, ⟨51, _⟩ => ⟨S_, .i32⟩
  | .hbm, ⟨52, _⟩ => ⟨S16384x1, .i32⟩
  | .hbm, ⟨53, _⟩ => ⟨S16384x1, .i1⟩
  | .hbm, ⟨54, _⟩ => ⟨S_, .i32⟩
  | .hbm, ⟨55, _⟩ => ⟨S16384x1, .i32⟩
  | .hbm, ⟨56, _⟩ => ⟨S16384x1, .i32⟩
  | .hbm, ⟨57, _⟩ => ⟨S16384x1, .i32⟩
  | .hbm, ⟨58, _⟩ => ⟨S_, .i32⟩
  | .hbm, ⟨59, _⟩ => ⟨S16384x206, .i32⟩
  | .hbm, ⟨60, _⟩ => ⟨S16384x206, .i1⟩
  | .hbm, ⟨61, _⟩ => ⟨S_, .i32⟩
  | .hbm, ⟨62, _⟩ => ⟨S16384x206, .i32⟩
  | .hbm, ⟨63, _⟩ => ⟨S16384x206, .i32⟩
  | .hbm, ⟨64, _⟩ => ⟨S16384x206, .i32⟩
  | .hbm, ⟨65, _⟩ => ⟨S16384x206, .i32⟩
  | .hbm, ⟨66, _⟩ => ⟨S16384x206x1, .i32⟩
  | .hbm, ⟨67, _⟩ => ⟨S16384x206x1, .i32⟩
  | .hbm, ⟨68, _⟩ => ⟨S16384x206x2, .i32⟩
  | .hbm, ⟨69, _⟩ => ⟨S_, .f32⟩
  | .hbm, ⟨70, _⟩ => ⟨S16384x206, .f32⟩
  | .hbm, ⟨71, _⟩ => ⟨S16384x1931, .f32⟩
  | .hbm, ⟨72, _⟩ => ⟨S_, .i32⟩
  | .hbm, ⟨73, _⟩ => ⟨S8, .i32⟩
  | .hbm, ⟨74, _⟩ => ⟨S8, .i1⟩
  | .hbm, ⟨75, _⟩ => ⟨S_, .i32⟩
  | .hbm, ⟨76, _⟩ => ⟨S8, .i32⟩
  | .hbm, ⟨77, _⟩ => ⟨S8, .i32⟩
  | .hbm, ⟨78, _⟩ => ⟨S8, .i32⟩
  | .hbm, ⟨79, _⟩ => ⟨S8x1, .i32⟩
  | .hbm, ⟨80, _⟩ => ⟨S1, .i32⟩
  | .hbm, ⟨81, _⟩ => ⟨S_, .i32⟩
  | .hbm, ⟨82, _⟩ => ⟨S8x1, .i32⟩
  | .hbm, ⟨83, _⟩ => ⟨S8x1, .i1⟩
  | .hbm, ⟨84, _⟩ => ⟨S1x1, .i32⟩
  | .hbm, ⟨85, _⟩ => ⟨S8x1, .i32⟩
  | .hbm, ⟨86, _⟩ => ⟨S8x1, .i1⟩
  | .hbm, ⟨87, _⟩ => ⟨S8x1, .i1⟩
  | .hbm, ⟨88, _⟩ => ⟨S_, .i1⟩
  | .hbm, ⟨89, _⟩ => ⟨S8, .i1⟩
  | .hbm, ⟨90, _⟩ => ⟨S16384x8, .f32⟩
  | .hbm, ⟨91, _⟩ => ⟨S16384x8, .i1⟩
  | .hbm, ⟨92, _⟩ => ⟨S_, .f32⟩
  | .hbm, ⟨93, _⟩ => ⟨S16384x8, .f32⟩
  | .hbm, ⟨94, _⟩ => ⟨S16384x8, .f32⟩
  | .hbm, ⟨95, _⟩ => ⟨S16384x1939, .f32⟩
  | .hbm, ⟨96, _⟩ => ⟨S1939x10, .f32⟩
  | .hbm, ⟨97, _⟩ => ⟨S16384x10, .f32⟩
  | .hbm, ⟨98, _⟩ => ⟨S1x10, .f32⟩
  | .hbm, ⟨99, _⟩ => ⟨S16384x10, .f32⟩
  | .hbm, ⟨100, _⟩ => ⟨S16384x10, .f32⟩
  | .hbm, ⟨101, _⟩ => ⟨S_, .f32⟩
  | .hbm, ⟨102, _⟩ => ⟨S16384x10, .f32⟩
  | .hbm, ⟨103, _⟩ => ⟨S16384x10, .f32⟩
  | .hbm, ⟨104, _⟩ => ⟨S10x64, .f32⟩
  | .hbm, ⟨105, _⟩ => ⟨S16384x64, .f32⟩
  | .hbm, ⟨106, _⟩ => ⟨S1x64, .f32⟩
  | .hbm, ⟨107, _⟩ => ⟨S16384x64, .f32⟩
  | .hbm, ⟨108, _⟩ => ⟨S16384x64, .f32⟩
  | .hbm, ⟨109, _⟩ => ⟨S10x1, .f32⟩
  | .hbm, ⟨110, _⟩ => ⟨S16384x1, .f32⟩
  | .hbm, ⟨111, _⟩ => ⟨S1x1, .f32⟩
  | .hbm, ⟨112, _⟩ => ⟨S16384x1, .f32⟩
  | .hbm, ⟨113, _⟩ => ⟨S16384x1, .f32⟩
  | .hbm, ⟨114, _⟩ => ⟨S16384x1, .f32⟩
  | _, _ => ⟨S16384x214, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_cst : Ref sig .tc := ⟨.hbm, 8, rfl⟩
abbrev main_c_0 : Ref sig .tc := ⟨.hbm, 9, rfl⟩
abbrev main_c_1 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_call1_v0 : Ref sig .tc := ⟨.hbm, 39, rfl⟩
abbrev main_call1_c : Ref sig .tc := ⟨.hbm, 40, rfl⟩
abbrev main_call1_c_0 : Ref sig .tc := ⟨.hbm, 41, rfl⟩
abbrev main_call1_v1_0 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_cst_2 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_c_3 : Ref sig .tc := ⟨.hbm, 51, rfl⟩
abbrev main_v13 : Ref sig .tc := ⟨.hbm, 52, rfl⟩
abbrev main_v14 : Ref sig .tc := ⟨.hbm, 53, rfl⟩
abbrev main_c_4 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_5 : Ref sig .tc := ⟨.hbm, 58, rfl⟩
abbrev main_v18 : Ref sig .tc := ⟨.hbm, 59, rfl⟩
abbrev main_v19 : Ref sig .tc := ⟨.hbm, 60, rfl⟩
abbrev main_c_6 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_cst_7 : Ref sig .tc := ⟨.hbm, 69, rfl⟩
abbrev main_v27 : Ref sig .tc := ⟨.hbm, 70, rfl⟩
abbrev main_v28 : Ref sig .tc := ⟨.hbm, 71, rfl⟩
abbrev main_call2_c : Ref sig .tc := ⟨.hbm, 72, rfl⟩
abbrev main_call2_v0 : Ref sig .tc := ⟨.hbm, 73, rfl⟩
abbrev main_call2_v1 : Ref sig .tc := ⟨.hbm, 74, rfl⟩
abbrev main_call2_c_0 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_v5 : Ref sig .tc := ⟨.hbm, 79, rfl⟩
abbrev main_call2_c_1 : Ref sig .tc := ⟨.hbm, 80, rfl⟩
abbrev main_call2_c_2 : Ref sig .tc := ⟨.hbm, 81, rfl⟩
abbrev main_call2_v6 : Ref sig .tc := ⟨.hbm, 82, rfl⟩
abbrev main_call2_v7 : Ref sig .tc := ⟨.hbm, 83, rfl⟩
abbrev main_call2_v8 : Ref sig .tc := ⟨.hbm, 84, rfl⟩
abbrev main_call2_v9 : Ref sig .tc := ⟨.hbm, 85, rfl⟩
abbrev main_call2_v10 : Ref sig .tc := ⟨.hbm, 86, rfl⟩
abbrev main_call2_v11 : Ref sig .tc := ⟨.hbm, 87, rfl⟩
abbrev main_call2_c_3 : Ref sig .tc := ⟨.hbm, 88, rfl⟩
abbrev main_call2_v12 : Ref sig .tc := ⟨.hbm, 89, rfl⟩
abbrev main_call2_v13 : Ref sig .tc := ⟨.hbm, 90, rfl⟩
abbrev main_call2_v14 : Ref sig .tc := ⟨.hbm, 91, rfl⟩
abbrev main_call2_cst : Ref sig .tc := ⟨.hbm, 92, rfl⟩
abbrev main_call2_v15 : Ref sig .tc := ⟨.hbm, 93, rfl⟩
abbrev main_v29 : Ref sig .tc := ⟨.hbm, 94, rfl⟩
abbrev main_v30 : Ref sig .tc := ⟨.hbm, 95, rfl⟩
abbrev main_v31 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_v35 : Ref sig .tc := ⟨.hbm, 100, rfl⟩
abbrev main_call3_cst : Ref sig .tc := ⟨.hbm, 101, rfl⟩
abbrev main_call3_v0 : Ref sig .tc := ⟨.hbm, 102, rfl⟩
abbrev main_v36 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩

abbrev nD : Nat := 1
abbrev τ : Topo := Topo.v7x

variable {F : FTy → Type} [FloatOps F]
-- ==== Proof.RefTerm.lean ====
/- What the reference program computes, written as plain functions of its seven arguments, and its run read at them. -/
module

public import proofs.«01_k».proof.Defs
public import proofs.«01_k».proof.Proof.Gen.ReferenceIdeal
public import Idealize.ShloMosaic.Adequacy
public import Idealize.ShloMosaic.Init

@[expose] public section

noncomputable section

namespace Cert.ReferenceIdeal.Term

open Idealize.ShloMosaic Idealize.SL.Sem Cert.ReferenceIdeal Cert.ReferenceIdeal.Facts₀

variable [Cert.ReferenceIdeal.Facts]

/-- The columns of `x` the one-hot features read, as one index word each, a negative one moved up by the 214 columns. -/
def ohIdx : IVec S206x1 32 :=
  broadcastInDim S206x1 ![0] bcast_S206_S206x1_0
    (select (cmpi .slt (fun i => lit0 (S206.rowMajor i)) (broadcastInDim S206 ![] bcast_S_S206 (constantI S_ 32 0#32)))
      (addi (fun i => lit0 (S206.rowMajor i)) (broadcastInDim S206 ![] bcast_S_S206 (constantI S_ 32 214#32)))
      (fun i => lit0 (S206.rowMajor i)))

/-- Which of those index words lie between 0 and 213. -/
def ohOk : IVec S206 1 :=
  Host.reduce IntOp.andi
    (andi (cmpi .sge ohIdx (broadcastInDim S206x1 ![] bcast_S_S206x1 (constantI S_ 32 0#32)))
      (cmpi .sle ohIdx (broadcastInDim S206x1 ![0, 1] bcast_S1x1_S206x1_0_1 (broadcastInDim S1x1 ![1] bcast_S1_S1x1_1 (constantI S1 32 213#32)))))
    (constantI S_ 1 1#1) reducesTo_S206x1_S206_d1 h_S_

/-- The one-hot columns of `x`. -/
def ohCols (x : FVec Ideal S16384x214 .f32) : FVec Ideal S16384x206 .f32 :=
  select (broadcastInDim S16384x206 ![1] bcast_S206_S16384x206_1 ohOk)
    (Host.gather gather_S16384x214_S206x1_S16384x206_0_1_n_n_1_1_163841 x ohIdx)
    (broadcastInDim S16384x206 ![] bcast_S_S16384x206 (constant S_ .f32 0x7FC00000#32))

/-- Where an entry of `x` equals one of the values its feature may take. -/
def hits (x : FVec Ideal S16384x214 .f32) : IVec S16384x206x20 1 :=
  cmpf .oeq
    (broadcastInDim S16384x206x20 ![0, 1, 2] bcast_S1x206x20_S16384x206x20_0_1_2
      (broadcastInDim S1x206x20 ![1, 2] bcast_S206x20_S1x206x20_1_2 (fun i => FloatOps.ofBits (F := Ideal) .f32 (lit1 (S206x20.rowMajor i)))))
    (broadcastInDim S16384x206x20 ![0, 1, 2] bcast_S16384x206x1_S16384x206x20_0_1_2
      (broadcastInDim S16384x206x1 ![0, 1] bcast_S16384x206_S16384x206x1_0_1 (ohCols x)))

/-- The position of the first value an entry equals. -/
def firstHit (x : FVec Ideal S16384x214 .f32) : IVec S16384x206 32 :=
  fun j => (Host.reduce2 reducer_argmax_i1_i32 (hits x) (iotaInDim S16384x206x20 32 2) (constantI S_ 1 0#1) (constantI S_ 32 0#32)
    reducesTo_S16384x206x20_S16384x206_d2 h_S_ j).2

/-- The feature column each entry sets: its feature's first column plus that position. -/
def col (x : FVec Ideal S16384x214 .f32) : IVec S16384x206 32 :=
  addi (firstHit x)
    (broadcastInDim S16384x206 ![0, 1] bcast_S1x206_S16384x206_0_1 (broadcastInDim S1x206 ![1] bcast_S206_S1x206_1 (fun i => lit2 (S206.rowMajor i))))

/-- The same column with a negative one moved up by the 1931 columns. -/
def colWrap (x : FVec Ideal S16384x214 .f32) : IVec S16384x206 32 :=
  select (cmpi .slt (col x) (broadcastInDim S16384x206 ![] bcast_S_S16384x206 (constantI S_ 32 0#32)))
    (addi (col x) (broadcastInDim S16384x206 ![] bcast_S_S16384x206 (constantI S_ 32 1931#32))) (col x)

/-- Each row's number, a negative one moved up by the 16384 rows. -/
def rowWrap : IVec S16384x1 32 :=
  select (cmpi .slt (broadcastInDim S16384x1 ![0] bcast_S16384_S16384x1_0 (iotaInDim S16384 32 0))
      (broadcastInDim S16384x1 ![] bcast_S_S16384x1 (constantI S_ 32 0#32)))
    (addi (broadcastInDim S16384x1 ![0] bcast_S16384_S16384x1_0 (iotaInDim S16384 32 0))
      (broadcastInDim S16384x1 ![] bcast_S_S16384x1 (constantI S_ 32 16384#32)))
    (broadcastInDim S16384x1 ![0] bcast_S16384_S16384x1_0 (iotaInDim S16384 32 0))

/-- Two index words side by side. -/
def catPairs (a b : IVec S16384x206x1 32) : IVec S16384x206x2 32 :=
  concatenate S16384x206x2 2 [⟨S16384x206x1, a⟩, ⟨S16384x206x1, b⟩] concatenates_S16384x206x1_S16384x206x1_S16384x206x2_d2

/-- The (row, column) pairs the one-hot matrix is set at. -/
def pairs (x : FVec Ideal S16384x214 .f32) : IVec S16384x206x2 32 :=
  catPairs (broadcastInDim S16384x206x1 ![0, 1] bcast_S16384x206_S16384x206x1_0_1
      (broadcastInDim S16384x206 ![0, 1] bcast_S16384x1_S16384x206_0_1 rowWrap))
    (broadcastInDim S16384x206x1 ![0, 1] bcast_S16384x206_S16384x206x1_0_1 (colWrap x))

/-- The one-hot matrix: zero, and one at those pairs. -/
def oneHot (x : FVec Ideal S16384x214 .f32) : FVec Ideal S16384x1931 .f32 :=
  Host.scatter scatter_S16384x1931_S16384x206x2_S16384x206_n_01_01_2 (fun _ b => b)
    (broadcastInDim S16384x1931 ![] bcast_S_S16384x1931 (constant S_ .f32 0x00000000#32)) (pairs x)
    (broadcastInDim S16384x206 ![] bcast_S_S16384x206 (constant S_ .f32 0x3F800000#32))

/-- The columns of `x` passed on unchanged, as one index word each, a negative one moved up by the 214 columns. -/
def idIdx : IVec S8x1 32 :=
  broadcastInDim S8x1 ![0] bcast_S8_S8x1_0
    (select (cmpi .slt (fun i => lit3 (S8.rowMajor i)) (broadcastInDim S8 ![] bcast_S_S8 (constantI S_ 32 0#32)))
      (addi (fun i => lit3 (S8.rowMajor i)) (broadcastInDim S8 ![] bcast_S_S8 (constantI S_ 32 214#32)))
      (fun i => lit3 (S8.rowMajor i)))

/-- Which of those index words lie between 0 and 213. -/
def idOk : IVec S8 1 :=
  Host.reduce IntOp.andi
    (andi (cmpi .sge idIdx (broadcastInDim S8x1 ![] bcast_S_S8x1 (constantI S_ 32 0#32)))
      (cmpi .sle idIdx (broadcastInDim S8x1 ![0, 1] bcast_S1x1_S8x1_0_1 (broadcastInDim S1x1 ![1] bcast_S1_S1x1_1 (constantI S1 32 213#32)))))
    (constantI S_ 1 1#1) reducesTo_S8x1_S8_d1 h_S_

/-- The columns of `x` passed on unchanged. -/
def idCols (x : FVec Ideal S16384x214 .f32) : FVec Ideal S16384x8 .f32 :=
  select (broadcastInDim S16384x8 ![1] bcast_S8_S16384x8_1 idOk)
    (Host.gather gather_S16384x214_S8x1_S16384x8_0_1_n_n_1_1_163841 x idIdx)
    (broadcastInDim S16384x8 ![] bcast_S_S16384x8 (constant S_ .f32 0x7FC00000#32))

/-- The one-hot columns followed by the unchanged ones. -/
def catFeat (a : FVec Ideal S16384x1931 .f32) (b : FVec Ideal S16384x8 .f32) : FVec Ideal S16384x1939 .f32 :=
  concatenate S16384x1939 1 [⟨S16384x1931, a⟩, ⟨S16384x8, b⟩] concatenates_S16384x1931_S16384x8_S16384x1939_d1

/-- All 1939 features: the one-hot ones, then the unchanged ones. -/
def feat (x : FVec Ideal S16384x214 .f32) : FVec Ideal S16384x1939 .f32 := catFeat (oneHot x) (idCols x)

/-- The trunk layer after its rectifier. -/
def hidden (x : FVec Ideal S16384x214 .f32) (W : FVec Ideal S10x1939 .f32) (b : FVec Ideal S10 .f32) : FVec Ideal S16384x10 .f32 :=
  maximumf
    (addf (Host.dotGeneral dot_S16384x1939_S1939x10_S16384x10_1_0_0_1_n_n none (feat x) (transpose S1939x10 [1, 0] W transposes_S10x1939_S1939x10_1_0))
      (broadcastInDim S16384x10 ![0, 1] bcast_S1x10_S16384x10_0_1 (broadcastInDim S1x10 ![1] bcast_S10_S1x10_1 b)))
    (broadcastInDim S16384x10 ![] bcast_S_S16384x10 (constant S_ .f32 0x00000000#32))

/-- The first result: the logits head on the trunk. -/
def logits (x : FVec Ideal S16384x214 .f32) (W : FVec Ideal S10x1939 .f32) (b : FVec Ideal S10 .f32) (Wl : FVec Ideal S64x10 .f32)
    (bl : FVec Ideal S64 .f32) : FVec Ideal S16384x64 .f32 :=
  addf (Host.dotGeneral dot_S16384x10_S10x64_S16384x64_1_0_0_1_n_n none (hidden x W b) (transpose S10x64 [1, 0] Wl transposes_S64x10_S10x64_1_0))
    (broadcastInDim S16384x64 ![0, 1] bcast_S1x64_S16384x64_0_1 (broadcastInDim S1x64 ![1] bcast_S64_S1x64_1 bl))

/-- The second result: the hyperbolic tangent of the value head on the trunk. -/
def value (x : FVec Ideal S16384x214 .f32) (W : FVec Ideal S10x1939 .f32) (b : FVec Ideal S10 .f32) (Wv : FVec Ideal S1x10 .f32)
    (bv : FVec Ideal S1 .f32) : FVec Ideal S16384x1 .f32 :=
  Host.tanh
    (addf (Host.dotGeneral dot_S16384x10_S10x1_S16384x1_1_0_0_1_n_n none (hidden x W b) (transpose S10x1 [1, 0] Wv transposes_S1x10_S10x1_1_0))
      (broadcastInDim S16384x1 ![0, 1] bcast_S1x1_S16384x1_0_1 (broadcastInDim S1x1 ![1] bcast_S1_S1x1_1 bv)))

end Cert.ReferenceIdeal.Term

end
-- ==== Proof.RefRun.lean ====
/- The reference program's run: it ends with its two results as the named functions of its arguments, and changes no argument. -/
module

public import proofs.«01_k».proof.Proof.RefTerm
public import Idealize.ShloMosaic.Lib.Claim

@[expose] public section

noncomputable section

namespace Cert.ReferenceIdeal.Term

open Idealize.ShloMosaic Idealize.SL.Sem Cert.ReferenceIdeal

variable [Cert.ReferenceIdeal.Facts]

/-- A pair of index words, under its name. -/
theorem cat_pairs (a b : IVec S16384x206x1 32) :
    concatenate S16384x206x2 2 [⟨S16384x206x1, a⟩, ⟨S16384x206x1, b⟩] Facts₀.concatenates_S16384x206x1_S16384x206x1_S16384x206x2_d2 = catPairs a b := rfl

/-- The features side by side, under their name. -/
theorem cat_feat (a : FVec Ideal S16384x1931 .f32) (b : FVec Ideal S16384x8 .f32) :
    concatenate S16384x1939 1 [⟨S16384x1931, a⟩, ⟨S16384x8, b⟩] Facts₀.concatenates_S16384x1931_S16384x8_S16384x1939_d1 = catFeat a b := rfl

/-- Reading the buffer `main_c` at its own type gives its contents. -/
theorem read_c (v : ((main_c : Ref sig .tc).ty.Contents (Elt Ideal))) : (StableHlo.TRef.of (T := ⟨S206, .i32⟩) main_c).ofBuf v = v := rfl

/-- Reading the buffer `main_c_1` at its own type gives its contents. -/
theorem read_c_1 (v : ((main_c_1 : Ref sig .tc).ty.Contents (Elt Ideal))) : (StableHlo.TRef.of (T := ⟨S8, .i32⟩) main_c_1).ofBuf v = v := rfl

/-- Reading the buffer `main_arg0` at its own type gives its contents. -/
theorem read_arg0 (v : ((main_arg0 : Ref sig .tc).ty.Contents (Elt Ideal))) : (StableHlo.TRef.of (T := ⟨S16384x214, .f32⟩) main_arg0).ofBuf v = v := rfl

/-- Reading the buffer `main_v5` at its own type gives its contents. -/
theorem read_v5 (v : ((main_v5 : Ref sig .tc).ty.Contents (Elt Ideal))) : (StableHlo.TRef.of (T := ⟨S16384x206x20, .i1⟩) main_v5).ofBuf v = v := rfl

/-- Reading the buffer `main_v35` at its own type gives its contents. -/
theorem read_v35 (v : ((main_v35 : Ref sig .tc).ty.Contents (Elt Ideal))) : (StableHlo.TRef.of (T := ⟨S16384x10, .f32⟩) main_v35).ofBuf v = v := rfl

/-- Writing the buffer `main_v0` at its own type stores the value. -/
theorem write_v0 (v : ((⟨S16384x206, .f32⟩ : BufTy).Contents (Elt Ideal))) : (StableHlo.TRef.of (T := ⟨S16384x206, .f32⟩) main_v0).toBuf v = v := rfl

/-- Writing the buffer `main_v6` at its own type stores the value. -/
theorem write_v6 (v : ((⟨S16384x206, .i32⟩ : BufTy).Contents (Elt Ideal))) : (StableHlo.TRef.of (T := ⟨S16384x206, .i32⟩) main_v6).toBuf v = v := rfl

/-- Writing the buffer `main_v29` at its own type stores the value. -/
theorem write_v29 (v : ((⟨S16384x8, .f32⟩ : BufTy).Contents (Elt Ideal))) : (StableHlo.TRef.of (T := ⟨S16384x8, .f32⟩) main_v29).toBuf v = v := rfl

/-- Writing the buffer `main_v36` at its own type stores the value. -/
theorem write_v36 (v : ((⟨S16384x10, .f32⟩ : BufTy).Contents (Elt Ideal))) : (StableHlo.TRef.of (T := ⟨S16384x10, .f32⟩) main_v36).toBuf v = v := rfl

set_option maxHeartbeats 4000000 in
/-- From any memory the reference ends with `logits` and `value` of its arguments in its two results. -/
theorem run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
          r.2.mem ((c.tc : Thread Cert.ReferenceIdeal.nD Cert.ReferenceIdeal.τ).loc Cert.ReferenceIdeal.main_v41)
            = logits (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
                (m ((c.tc : Thread Cert.ReferenceIdeal.nD Cert.ReferenceIdeal.τ).loc Cert.ReferenceIdeal.main_arg4))
          ∧ r.2.mem ((c.tc : Thread Cert.ReferenceIdeal.nD Cert.ReferenceIdeal.τ).loc Cert.ReferenceIdeal.main_v47)
            = value (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg5))
                (m ((c.tc : Thread Cert.ReferenceIdeal.nD Cert.ReferenceIdeal.τ).loc Cert.ReferenceIdeal.main_arg6))
          ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)) := by
  hlo_run
  · simp only [↓ cat_pairs, ↓ cat_feat, StableHlo.TRef.ofBuf_toBuf, read_c, read_c_1, read_arg0, read_v5, read_v35, write_v0, write_v6, write_v29, write_v36]
    rfl
  · simp only [↓ cat_pairs, ↓ cat_feat, StableHlo.TRef.ofBuf_toBuf, read_c, read_c_1, read_arg0, read_v5, read_v35, write_v0, write_v6, write_v29, write_v36]
    rfl

end Cert.ReferenceIdeal.Term

end
-- ==== Proof.Frames.lean ====
/- The programs' runs that ask nothing of the values: every argument is left as it was and every counter ends at zero. -/
module

public import proofs.«01_k».proof.Defs
public import proofs.«01_k».proof.Proof.Gen.Kernel.Frame
public import proofs.«01_k».proof.Proof.Gen.KernelIdeal.Frame
public import proofs.«01_k».proof.Proof.RefRun
public import proofs.«01_k».proof.Proof.Gen.Pre_counts_drawn
public import Idealize.ShloMosaic.Lib.Claim
public import Idealize.ShloMosaic.Adequacy
public import Idealize.ShloMosaic.Init

@[expose] public section

noncomputable section

namespace Cert.Proof

open Idealize.ShloMosaic Idealize.SL.Sem

/-- The kernel as compiled ends with its arguments unchanged. -/
theorem frame_kernel : Cert.quiescent_Kernel := fun m ρ _ => Cert.Kernel.Gen.frame m ρ

/-- The kernel read at the ideal instance ends with its arguments unchanged. -/
theorem frame_kernelIdeal : Cert.quiescent_KernelIdeal := fun m ρ _ => Cert.KernelIdeal.Gen.frame m ρ

/-- The same under the precondition. -/
theorem frame_kernelIdeal_pre : Cert.quiescent_KernelIdeal_pre_counts_drawn := fun m ρ _ => Cert.KernelIdeal.Gen.frame m ρ

/-- The reference ends with its arguments unchanged. -/
theorem frame_reference : Cert.quiescent_ReferenceIdeal := by
  intro m ρ _
  exact θ_run_mono (Cert.ReferenceIdeal.Term.run m ρ) fun r h =>
    ⟨fun c => (h c).2.2, Idealize.ShloMosaic.sem_eq_zero_of_no_sems (by decide) r.2⟩

/-- The same under the precondition. -/
theorem frame_reference_pre : Cert.quiescent_ReferenceIdeal_pre_counts_drawn := by
  intro m ρ _
  exact θ_run_mono (Cert.ReferenceIdeal.Term.run m ρ) fun r h =>
    ⟨fun c => (h c).2.2, Idealize.ShloMosaic.sem_eq_zero_of_no_sems (by decide) r.2⟩

end Cert.Proof

end
-- ==== Proof.HostTerm.lean ====
/- What the kernel's host part hands to the kernel's grid, written as plain functions of the arguments. -/
module

public import proofs.«01_k».proof.Defs
public import proofs.«01_k».proof.Proof.Gen.KernelIdeal

@[expose] public section

noncomputable section

namespace Cert.KernelIdeal.HostTerm

open Idealize.ShloMosaic Cert.KernelIdeal Cert.KernelIdeal.Facts₀

variable [Cert.KernelIdeal.Facts]

/-- The features' first one-hot columns. -/
def starts : IVec S206 32 := fun i => lit0 (S206.rowMajor i)

/-- Those columns moved up by `n`. -/
def shifted (n : BitVec 32) : IVec S206 32 := addi starts (broadcastInDim S206 ![] bcast_S_S206 (constantI S_ 32 n))

/-- Columns of the weights as index words, a negative one moved up by the 1939 columns. -/
def weightIdx (s : IVec S206 32) : IVec S206x1 32 :=
  broadcastInDim S206x1 ![0] bcast_S206_S206x1_0
    (select (cmpi .slt s (broadcastInDim S206 ![] bcast_S_S206 (constantI S_ 32 0#32)))
      (addi s (broadcastInDim S206 ![] bcast_S_S206 (constantI S_ 32 1939#32))) s)

/-- The weights at those columns. -/
def weightAt (W : FVec Ideal S10x1939 .f32) (s : IVec S206 32) : FVec Ideal S10x206 .f32 :=
  Host.gather gather_S10x1939_S206x1_S10x206_0_1_n_n_1_1_101 W (weightIdx s)

/-- The quadratic coefficient of each feature. -/
def quad (W : FVec Ideal S10x1939 .f32) : FVec Ideal S10x206 .f32 :=
  mulf (broadcastInDim S10x206 ![] bcast_S_S10x206 (constant S_ .f32 0x3F000000#32))
    (addf (subf (weightAt W (shifted 2#32)) (mulf (broadcastInDim S10x206 ![] bcast_S_S10x206 (constant S_ .f32 0x40000000#32)) (weightAt W (shifted 1#32))))
      (weightAt W starts))

/-- The linear coefficient of each feature. -/
def lin (W : FVec Ideal S10x1939 .f32) : FVec Ideal S10x206 .f32 :=
  subf (subf (weightAt W (shifted 1#32)) (weightAt W starts)) (quad W)

/-- A matrix of zeros, one row for each column of the input. -/
def zeros : FVec Ideal S214x10 .f32 := broadcastInDim S214x10 ![] bcast_S_S214x10 (constant S_ .f32 0x00000000#32)

/-- The input's columns the features are read from, as index words, a negative one moved up by the 214 columns. -/
def ohIdx : IVec S206x1 32 :=
  broadcastInDim S206x1 ![0] bcast_S206_S206x1_0
    (select (cmpi .slt (fun i => lit1 (S206.rowMajor i)) (broadcastInDim S206 ![] bcast_S_S206 (constantI S_ 32 0#32)))
      (addi (fun i => lit1 (S206.rowMajor i)) (broadcastInDim S206 ![] bcast_S_S206 (constantI S_ 32 214#32)))
      (fun i => lit1 (S206.rowMajor i)))

/-- The input's columns passed on unchanged, likewise. -/
def idIdx : IVec S8x1 32 :=
  broadcastInDim S8x1 ![0] bcast_S8_S8x1_0
    (select (cmpi .slt (fun i => lit2 (S8.rowMajor i)) (broadcastInDim S8 ![] bcast_S_S8 (constantI S_ 32 0#32)))
      (addi (fun i => lit2 (S8.rowMajor i)) (broadcastInDim S8 ![] bcast_S_S8 (constantI S_ 32 214#32)))
      (fun i => lit2 (S8.rowMajor i)))

/-- Rows set at the features' columns. -/
def atFeatures (A : FVec Ideal S10x206 .f32) : FVec Ideal S214x10 .f32 :=
  Host.scatter scatter_S214x10_S206x1_S206x10_1_0_0_1 (fun _ b => b) zeros ohIdx (transpose S206x10 [1, 0] A transposes_S10x206_S206x10_1_0)

/-- The matrix the entries are multiplied with: linear coefficients, and the unchanged entries' weights. -/
def linMat (W : FVec Ideal S10x1939 .f32) : FVec Ideal S214x10 .f32 :=
  Host.scatter scatter_S214x10_S8x1_S8x10_1_0_0_1 (fun _ b => b) (atFeatures (lin W)) idIdx
    (transpose S8x10 [1, 0] (extractStridedSlice S10x8 ![0, 1931] W slices_S10x1939_S10x8_0_1931) transposes_S10x8_S8x10_1_0)

/-- The matrix the squares are multiplied with: quadratic coefficients. -/
def quadMat (W : FVec Ideal S10x1939 .f32) : FVec Ideal S214x10 .f32 := atFeatures (quad W)

/-- The constant row: the bias plus every feature's weight at 0. -/
def constRow (W : FVec Ideal S10x1939 .f32) (b : FVec Ideal S10 .f32) : FVec Ideal S1x10 .f32 :=
  broadcastInDim S1x10 ![1] bcast_S10_S1x10_1
    (addf b (Host.reduceAdd (weightAt W starts) (constant S_ .f32 0x00000000#32) reducesTo_S10x206_S10_d1 h_S_))

end Cert.KernelIdeal.HostTerm

end
-- ==== Proof.HostRun.lean ====
/- The buffers the kernel's grid reads, read after the host part. -/
module

public import proofs.«01_k».proof.Proof.HostTerm
public import proofs.«01_k».proof.Proof.Gen.KernelIdeal.Value
public import Idealize.ShloMosaic.Lib.Claim

@[expose] public section

set_option maxRecDepth 16384

noncomputable section

namespace Cert.KernelIdeal.HostTerm

open Idealize.ShloMosaic Idealize.ShloMosaic.TcCoe Idealize.SL.Sem Cert.KernelIdeal Cert.KernelIdeal.Gen

variable (m : (ℓ : Loc nD τ sig) → Buf (Elt Ideal) ℓ)

/-- The matrix the entries are multiplied with. -/
theorem read_linMat (c : Dev nD) : V m c main_v59 = linMat (m ((c : Thread nD τ).loc main_arg1)) := by
  entry_read
  with_unfolding_all rfl

/-- The matrix the squares are multiplied with. -/
theorem read_quadMat (c : Dev nD) : V m c main_v50 = quadMat (m ((c : Thread nD τ).loc main_arg1)) := by
  entry_read
  with_unfolding_all rfl

/-- The constant row. -/
theorem read_constRow (c : Dev nD) :
    V m c main_v62 = constRow (m ((c : Thread nD τ).loc main_arg1)) (m ((c : Thread nD τ).loc main_arg2)) := by
  entry_read
  with_unfolding_all rfl

end Cert.KernelIdeal.HostTerm

end
-- ==== Proof.Model.lean ====
/- The mathematics both programs share, about sums of extended reals only: the features' places among the columns, the
   quadratic through three weights, and the trunk layer's sum in its two forms. -/
module

public import Mathlib.Data.EReal.Operations
public import Mathlib.Data.EReal.Inv
public import Mathlib.Algebra.BigOperators.Fin
public import Mathlib.Tactic.Ring
public import Mathlib.Tactic.Abel
public import Mathlib.Tactic.NormNum

@[expose] public section

noncomputable section

namespace Cert.Model

/-- The first of the one-hot columns that belong to feature `f`. -/
def start (f : Nat) : Nat :=
  if f < 104 then 6 * f else if f < 154 then 624 + 20 * (f - 104) else if f < 204 then 1624 + 6 * (f - 154) else if f < 205 then 1924 else 1928

/-- The column of the input that feature `f` is read from. -/
def ohCol (f : Nat) : Nat := if f < 104 then f else f + 8

/-- Each feature owns at least three columns, all among the 1931 one-hot ones. -/
theorem start_lt (f : Fin 206) : start f + 3 ≤ 1931 := by
  unfold start; split_ifs <;> omega

/-- A later feature's columns begin past the first three of an earlier one. -/
theorem start_mono {f f' : Fin 206} (h : f.val < f'.val) : start f + 3 ≤ start f' := by
  unfold start; split_ifs <;> omega

/-- A feature is read from a column of the input. -/
theorem ohCol_lt (f : Fin 206) : ohCol f < 214 := by
  unfold ohCol; split_ifs <;> omega

/-- The column feature `f` is read from, as a column number. -/
def oh (f : Fin 206) : Fin 214 := ⟨ohCol f, ohCol_lt f⟩

/-- The column the `i`-th unchanged entry is read from. -/
def idc (i : Fin 8) : Fin 214 := ⟨104 + i.val, by omega⟩

/-- Two different features are read from two different columns. -/
theorem oh_injective : Function.Injective oh := by
  intro f f' h
  have h' : ohCol f = ohCol f' := congrArg Fin.val h
  unfold ohCol at h'
  apply Fin.ext
  split_ifs at h' <;> omega

/-- No feature is read from a column of an unchanged entry. -/
theorem oh_ne_idc (f : Fin 206) (i : Fin 8) : oh f ≠ idc i := by
  intro h
  have h' : ohCol f = 104 + i.val := congrArg Fin.val h
  unfold ohCol at h'
  split_ifs at h' <;> omega

/-- Every column of the input belongs to exactly one feature or unchanged entry. -/
theorem columns_bijective : Function.Bijective (Sum.elim oh idc) := by
  refine (Fintype.bijective_iff_injective_and_card _).2 ⟨?_, by simp⟩
  rintro (f | i) (f' | i') h
  · exact congrArg Sum.inl (oh_injective h)
  · exact (oh_ne_idc f i' h).elim
  · exact (oh_ne_idc f' i h.symm).elim
  · have h' : 104 + i.val = 104 + i'.val := congrArg Fin.val h
    exact congrArg Sum.inr (Fin.ext (by omega))

/-- A sum over the input's columns, feature columns first. -/
theorem sum_columns {M : Type*} [AddCommMonoid M] (F : Fin 214 → M) : ∑ d, F d = ∑ f, F (oh f) + ∑ i, F (idc i) := by
  rw [← columns_bijective.sum_comp F, Fintype.sum_sum_type]
  rfl

/-- A value the feature's draw allows: 0, 1 or 2. -/
def Drawn (v : EReal) : Prop := v = 0 ∨ v = 1 ∨ v = 2

open Classical in
/-- Which of 0, 1 and 2 the value is. -/
def digit (v : EReal) : Nat := if v = 0 then 0 else if v = 1 then 1 else 2

/-- It is below three. -/
theorem digit_lt (v : EReal) : digit v < 3 := by unfold digit; split_ifs <;> omega

/-- The digit of 0. -/
theorem digit_zero : digit 0 = 0 := if_pos rfl
/-- The digit of 1. -/
theorem digit_one : digit 1 = 1 := by unfold digit; rw [if_neg one_ne_zero, if_pos rfl]
/-- Two is neither one nor zero among the extended reals. -/
theorem two_ne : (2 : EReal) ≠ 0 ∧ (2 : EReal) ≠ 1 := by
  constructor
  · exact_mod_cast (by norm_num : (2 : ℝ) ≠ 0)
  · exact_mod_cast (by norm_num : (2 : ℝ) ≠ 1)
/-- The digit of 2. -/
theorem digit_two : digit 2 = 2 := by unfold digit; rw [if_neg two_ne.1, if_neg two_ne.2]

/-- The one-hot column an entry of value `v` sets in feature `f`. -/
def hot (f : Fin 206) (v : EReal) : Fin 1931 := ⟨start f + digit v, by have := start_lt f; have := digit_lt v; omega⟩

/-- Different features set different columns. -/
theorem hot_injective (X : Fin 206 → EReal) : Function.Injective fun f => hot f (X f) := by
  intro f f' h
  have h' : start f + digit (X f) = start f' + digit (X f') := congrArg Fin.val h
  have d := digit_lt (X f)
  have d' := digit_lt (X f')
  rcases Nat.lt_trichotomy f.val f'.val with l | l | l
  · have := start_mono l; omega
  · exact Fin.ext l
  · have := start_mono l; omega

/-- The trunk layer before its bias: of each feature the weight at the column it sets, and of each unchanged entry that entry
    times its weight. -/
def trunk (X : Fin 214 → EReal) (W : Fin 1939 → EReal) : EReal :=
  (∑ f : Fin 206, W ⟨(hot f (X (oh f))).val, by omega⟩) + ∑ i : Fin 8, X (idc i) * W ⟨1931 + i.val, by omega⟩

open Classical in
/-- One where the statement holds, zero where not. -/
def indicator (p : Prop) : EReal := if p then 1 else 0

/-- Where it holds. -/
theorem indicator_pos {p : Prop} (h : p) : indicator p = 1 := if_pos h
/-- Where it does not. -/
theorem indicator_neg {p : Prop} (h : ¬ p) : indicator p = 0 := if_neg h

/-- A row of zeros and ones times the weights is the sum of the weights at the ones: the features' columns. -/
theorem sum_oneHot (X : Fin 214 → EReal) (W : Fin 1931 → EReal) :
    (∑ c : Fin 1931, indicator (∃ f : Fin 206, hot f (X (oh f)) = c) * W c) = ∑ f : Fin 206, W (hot f (X (oh f))) := by
  classical
  rw [← Finset.sum_image (s := Finset.univ) (f := W) (g := fun f => hot f (X (oh f)))
    (fun _ _ _ _ h => hot_injective (fun f => X (oh f)) h)]
  rw [← Finset.sum_subset (Finset.subset_univ (Finset.univ.image fun f => hot f (X (oh f))))]
  · refine Finset.sum_congr rfl fun c hc => ?_
    obtain ⟨f, -, hf⟩ := Finset.mem_image.1 hc
    rw [indicator_pos ⟨f, hf⟩, one_mul]
  · intro c _ hc
    rw [indicator_neg fun ⟨f, hf⟩ => hc (Finset.mem_image.2 ⟨f, Finset.mem_univ f, hf⟩), zero_mul]

/-- A sum over the 1939 features, the one-hot ones first. -/
theorem sum_features {M : Type*} [AddCommMonoid M] (F : Fin 1939 → M) :
    ∑ c, F c = ∑ c : Fin 1931, F ⟨c.val, by omega⟩ + ∑ i : Fin 8, F ⟨1931 + i.val, by omega⟩ :=
  Fin.sum_univ_add (a := 1931) (b := 8) F

/-- The features times the weights: the one-hot columns set at the features' columns, then the unchanged entries. -/
theorem trunk_features (X : Fin 214 → EReal) (W F : Fin 1939 → EReal)
    (hF : ∀ c : Fin 1931, F ⟨c.val, by omega⟩ = indicator (∃ f : Fin 206, hot f (X (oh f)) = c))
    (hFi : ∀ i : Fin 8, F ⟨1931 + i.val, by omega⟩ = X (idc i)) : ∑ c, F c * W c = trunk X W := by
  rw [sum_features]
  simp only [hF, hFi]
  rw [sum_oneHot X fun c => W ⟨c.val, by omega⟩]
  rfl

/-- A value that is neither infinity is a real number. -/
theorem exists_real {t : EReal} (ht : t ≠ ⊤) (hb : t ≠ ⊥) : ∃ r : ℝ, t = (r : EReal) :=
  ⟨t.toReal, (EReal.coe_toReal ht hb).symm⟩

/-- The quadratic through the weights `t0`, `t1`, `t2` at 0, 1 and 2, at those places, for finite weights. -/
theorem quadratic {v t0 t1 t2 half two : EReal} (hhalf : half = ((1 / 2 : ℝ) : EReal)) (htwo : two = ((2 : ℝ) : EReal)) (hv : Drawn v)
    (h0 : ∃ r : ℝ, t0 = (r : EReal)) (h1 : ∃ r : ℝ, t1 = (r : EReal)) (h2 : ∃ r : ℝ, t2 = (r : EReal)) :
    v * ((t1 - t0) - half * ((t2 - two * t1) + t0)) + (v * v) * (half * ((t2 - two * t1) + t0)) + t0
      = if digit v = 0 then t0 else if digit v = 1 then t1 else t2 := by
  obtain ⟨r0, rfl⟩ := h0
  obtain ⟨r1, rfl⟩ := h1
  obtain ⟨r2, rfl⟩ := h2
  subst hhalf htwo
  rcases hv with rfl | rfl | rfl
  · rw [digit_zero, if_pos rfl]
    simp
  · rw [digit_one, if_neg one_ne_zero, if_pos rfl]
    have e : (1 : EReal) = ((1 : ℝ) : EReal) := rfl
    rw [e]
    norm_cast
    ring_nf
  · rw [digit_two, if_neg (by decide), if_neg (by decide)]
    have e : (2 : EReal) = ((2 : ℝ) : EReal) := by norm_cast
    rw [e]
    norm_cast
    ring_nf

/-- The weight a feature contributes, chosen by its digit among the first three of its columns. -/
theorem weight_at (W : Fin 1939 → EReal) (f : Fin 206) (v : EReal) :
    (if digit v = 0 then W ⟨start f, by have := start_lt f; omega⟩ else if digit v = 1 then W ⟨start f + 1, by have := start_lt f; omega⟩
      else W ⟨start f + 2, by have := start_lt f; omega⟩) = W ⟨(hot f v).val, by omega⟩ := by
  have d := digit_lt v
  unfold hot
  split_ifs with h h'
  · simp only [h, Nat.add_zero]
  · simp only [h']
  · have : digit v = 2 := by omega
    simp only [this]

/-- The trunk layer's two forms agree: the entries times the linear coefficients, plus their squares times the quadratic
    coefficients, plus the bias and the weights at 0, is the bias added to the chosen weights. -/
theorem trunk_quadratic {half two : EReal} (hhalf : half = ((1 / 2 : ℝ) : EReal)) (htwo : two = ((2 : ℝ) : EReal))
    (X : Fin 214 → EReal) (W : Fin 1939 → EReal) (b : EReal) (P Q : Fin 214 → EReal) (T0 T1 T2 : Fin 206 → EReal)
    (hX : ∀ f, Drawn (X (oh f))) (hW : ∀ c : Fin 1939, c.val < 1931 → ∃ r : ℝ, W c = (r : EReal))
    (hT0 : ∀ f, T0 f = W ⟨start f, by have := start_lt f; omega⟩) (hT1 : ∀ f, T1 f = W ⟨start f + 1, by have := start_lt f; omega⟩)
    (hT2 : ∀ f, T2 f = W ⟨start f + 2, by have := start_lt f; omega⟩)
    (hP : ∀ f, P (oh f) = (T1 f - T0 f) - half * ((T2 f - two * T1 f) + T0 f)) (hPi : ∀ i : Fin 8, P (idc i) = W ⟨1931 + i.val, by omega⟩)
    (hQ : ∀ f, Q (oh f) = half * ((T2 f - two * T1 f) + T0 f)) (hQi : ∀ i, Q (idc i) = 0) :
    (∑ d, X d * P d) + (∑ d, (X d * X d) * Q d) + (b + ∑ f, T0 f) = trunk X W + b := by
  have key : ∀ f, X (oh f) * P (oh f) + (X (oh f) * X (oh f)) * Q (oh f) + T0 f = W ⟨(hot f (X (oh f))).val, by omega⟩ := by
    intro f
    have l := start_lt f
    rw [← weight_at W f (X (oh f)), hP, hQ, ← hT0, ← hT1, ← hT2]
    exact quadratic hhalf htwo (hX f) (hT0 f ▸ hW _ (by show start f < 1931; omega)) (hT1 f ▸ hW _ (by show start f + 1 < 1931; omega))
      (hT2 f ▸ hW _ (by show start f + 2 < 1931; omega))
  unfold trunk
  rw [sum_columns, sum_columns, ← Finset.sum_congr rfl fun f _ => key f, Finset.sum_add_distrib, Finset.sum_add_distrib]
  rw [Finset.sum_congr rfl fun i _ => congrArg (X (idc i) * ·) (hPi i)]
  rw [Finset.sum_eq_zero (f := fun i => (X (idc i) * X (idc i)) * Q (idc i)) fun i _ => by rw [hQi, mul_zero]]
  rw [add_zero]
  abel

end Cert.Model

end
-- ==== Proof.HostTables.lean ====
/- The kernel's literal tables, each entry in closed form. -/
module

public import proofs.«01_k».proof.Defs
public import proofs.«01_k».proof.Proof.Model

@[expose] public section

set_option maxRecDepth 16384

noncomputable section

namespace Cert.KernelIdeal.Tables

open Idealize.ShloMosaic Cert.KernelIdeal Cert.Model

/-- Entry `f` of the first table is the first one-hot column of feature `f`. -/
theorem first : ∀ f : Fin 206, lit0 f = BitVec.ofNat 32 (start f.val) := by decide +kernel

/-- Entry `f` of the second table is the column feature `f` is read from. -/
theorem column : ∀ f : Fin 206, lit1 f = BitVec.ofNat 32 (ohCol f.val) := by decide +kernel

/-- Entry `i` of the third table is the column of the `i`-th unchanged entry. -/
theorem kept : ∀ i : Fin 8, lit2 i = BitVec.ofNat 32 (104 + i.val) := by decide +kernel

end Cert.KernelIdeal.Tables

end
-- ==== Proof.Layout.lean ====
/- Gathers of columns and scatters of rows and of single entries, each read at
   an index, at any extents. -/
module

public import Idealize.ShloMosaic.Lib.Pointwise
public import Idealize.ShloMosaic.Lib.Routing.OpsSet
public import Idealize.ShloMosaic.Lib.StackMember

@[expose] public section

noncomputable section

namespace Cert.Layout

open Idealize.ShloMosaic

/-- A matrix's shape. -/
abbrev mat (a b : Nat) : Shape := ⟨2, ![a, b]⟩
/-- The shape of a stack of matrices. -/
abbrev stack (a b c : Nat) : Shape := ⟨3, ![a, b, c]⟩

/-- The place of an index of a one-axis array in row-major order is its coordinate. -/
theorem place1 {n : Nat} (f : Fin n) : (⟨1, ![n]⟩ : Shape).rowMajor (ix1 f) = f.cast (by simp [Shape.numel]) :=
  Fin.ext (Shape.rowMajor_val_one _)

/-- A word below 2³¹ is not negative, so it is not moved up. -/
theorem wrap_small (n a : Nat) (h : n < 2 ^ 31) :
    Scalar.select (IntOp.cmpi .slt (BitVec.ofNat 32 n) 0#32) (IntOp.addi (BitVec.ofNat 32 n) (BitVec.ofNat 32 a)) (BitVec.ofNat 32 n) = BitVec.ofNat 32 n :=
  Routing.wrap_of_lt _ _ (by rw [BitVec.toNat_ofNat]; omega)

/-- A gather of whole columns of an `N` by `B` matrix: where index word `j` is the column number `b`, entry `(r, j)` of the result is the
    matrix's entry `(r, b)`. -/
theorem gather_column {α : Type} {N B n : Nat} (d : GatherDims (mat N B) (mat n 1) (mat N n)) (hoff : d.offsetDims = [0])
    (hcoll : d.collapsedSliceDims = [1]) (hob : d.operandBatchingDims = []) (hsb : d.startIndicesBatchingDims = [])
    (hsim : d.startIndexMap = [1]) (hivd : d.indexVectorDim = 1) (x : (mat N B).Idx → α) (idx : IVec (mat n 1) 32)
    (r : Fin N) (j : Fin n) (b : Fin B) (hb : idx (ix2 j 0) = BitVec.ofNat 32 b.val) (hB : B < 2 ^ 31) :
    Host.gather d x idx (ix2 r j) = x (ix2 r b) := by
  have hsl : d.sliceSizes 1 = 1 := d.slice_collapsed 1 (by rw [hcoll]; exact List.mem_singleton.2 rfl)
  obtain ⟨off, coll, ob, sb, sim, ivd, ss, wf⟩ := d
  dsimp only at hoff hcoll hob hsb hsim hivd hsl
  subst hoff hcoll hob hsb hsim hivd
  unfold Host.gather
  refine congrArg x (funext fun a => Fin.ext ?_)
  have hbB := b.isLt
  match a with
  | ⟨0, _⟩ =>
    show 0 + 0 + r.val = r.val
    omega
  | ⟨1, _⟩ =>
    have e : ∀ k : (mat n 1).Idx, k = ix2 j 0 → min (idx k).toInt.toNat (B - ss 1) + 0 + 0 = b.val := by
      rintro k rfl
      rw [hb, hsl, StableHlo.Predicate.toInt_ofNat_small _ (by omega)]
      omega
    refine e _ (funext fun q => ?_)
    match q with
    | ⟨0, _⟩ => rfl
    | ⟨1, _⟩ => rfl

/-- Where update `(i, c')` of a scatter of rows lands: at row `r`, column `c` exactly when index word `i` is `r` and `c'` is `c`. -/
theorem lands_row {R C n : Nat} (d : ScatterDims (mat R C) (mat n 1) (mat n C)) (huw : d.updateWindowDims = [1])
    (hiw : d.insertedWindowDims = [0]) (hsd : d.scatterDimsToOperandDims = [0]) (hivd : d.indexVectorDim = 1) (idx : IVec (mat n 1) 32)
    (i : Fin n) (c' : Fin C) (r : Fin R) (c : Fin C) :
    d.resultIdx? (ix2 i c') idx = some (ix2 r c) ↔ (idx (ix2 i 0)).toInt = r.val ∧ c' = c := by
  obtain ⟨uw, iw, sd, ivd, wf⟩ := d
  dsimp only at huw hiw hsd hivd
  subst huw hiw hsd hivd
  rw [ix2_eq_valueIdx r c, Routing.resultIdx?_ix2]
  have e : ∀ k : (mat n 1).Idx, k = ix2 i 0 → ((idx k).toInt + ((0 : Nat) : Int) = (r.val : Int) ∧ (0 : Int) + (c'.val : Int) = (c.val : Int)
      ↔ (idx (ix2 i 0)).toInt = r.val ∧ c' = c) := by
    rintro k rfl
    rw [Fin.ext_iff]
    omega
  refine e _ (funext fun q => ?_)
  match q with
  | ⟨0, _⟩ => rfl
  | ⟨1, _⟩ => rfl

/-- A scatter of rows, the indices being the different row numbers `g i`: row `g i` of the result is row `i` of the updates. -/
theorem scatter_row_hit {α : Type} {R C n : Nat} (d : ScatterDims (mat R C) (mat n 1) (mat n C)) (huw : d.updateWindowDims = [1])
    (hiw : d.insertedWindowDims = [0]) (hsd : d.scatterDimsToOperandDims = [0]) (hivd : d.indexVectorDim = 1) (x : (mat R C).Idx → α)
    (idx : IVec (mat n 1) 32) (upd : (mat n C).Idx → α) (g : Fin n → Fin R) (hg : Function.Injective g) (hR : R < 2 ^ 31)
    (hidx : ∀ i, idx (ix2 i 0) = BitVec.ofNat 32 (g i).val) (i : Fin n) (c : Fin C) :
    Host.scatter d (fun _ b => b) x idx upd (ix2 (g i) c) = upd (ix2 i c) := by
  have word : ∀ i', (idx (ix2 i' 0)).toInt = ((g i').val : Int) := fun i' => by
    rw [hidx, StableHlo.Predicate.toInt_ofNat_small _ (by have := (g i').isLt; omega)]
  refine Routing.scatter_set_hit d x idx upd _ _ (fun k hk => ?_) (ix2 i c)
    ((lands_row d huw hiw hsd hivd idx i c (g i) c).2 ⟨word i, rfl⟩)
  obtain ⟨i', c', rfl⟩ : ∃ (i' : Fin n) (c' : Fin C), k = ix2 i' c' := ⟨k 0, k 1, eq_ix2 k⟩
  obtain ⟨h, h'⟩ := (lands_row d huw hiw hsd hivd idx i' c' (g i) c).1 hk
  rw [word] at h
  rw [hg (Fin.ext (by exact_mod_cast h) : g i' = g i), h']

/-- The same scatter at a row no index names: the operand's row. -/
theorem scatter_row_miss {α : Type} {R C n : Nat} (d : ScatterDims (mat R C) (mat n 1) (mat n C)) (huw : d.updateWindowDims = [1])
    (hiw : d.insertedWindowDims = [0]) (hsd : d.scatterDimsToOperandDims = [0]) (hivd : d.indexVectorDim = 1) (x : (mat R C).Idx → α)
    (idx : IVec (mat n 1) 32) (upd : (mat n C).Idx → α) (g : Fin n → Fin R) (hR : R < 2 ^ 31)
    (hidx : ∀ i, idx (ix2 i 0) = BitVec.ofNat 32 (g i).val) (r : Fin R) (hr : ∀ i, g i ≠ r) (c : Fin C) :
    Host.scatter d (fun _ b => b) x idx upd (ix2 r c) = x (ix2 r c) := by
  refine Routing.scatter_set_miss d x idx upd _ fun k hk => ?_
  obtain ⟨i', c', rfl⟩ : ∃ (i' : Fin n) (c' : Fin C), k = ix2 i' c' := ⟨k 0, k 1, eq_ix2 k⟩
  obtain ⟨h, -⟩ := (lands_row d huw hiw hsd hivd idx i' c' r c).1 hk
  rw [hidx, StableHlo.Predicate.toInt_ofNat_small _ (by have := (g i').isLt; omega)] at h
  exact hr i' (Fin.ext (by exact_mod_cast h))

/-- A scatter of one value `v` at `(row, column)` pairs, the pair of position `(a, b)` being `(a, g a b)`: entry `(r, c)` of the result is `v`
    if some `g r b` is `c`, and the value `z` the operand holds everywhere if none is. -/
theorem scatter_pairs {α : Type} {R C n : Nat} (d : ScatterDims (mat R C) (stack R n 2) (mat R n)) (hiw : d.insertedWindowDims = [0, 1])
    (hsd : d.scatterDimsToOperandDims = [0, 1]) (hivd : d.indexVectorDim = 2) (x : (mat R C).Idx → α) (idx : IVec (stack R n 2) 32)
    (upd : (mat R n).Idx → α) (v z : α) (hx : ∀ k, x k = z) (hupd : ∀ k, upd k = v) (g : Fin R → Fin n → Fin C) (hR : R < 2 ^ 31) (hC : C < 2 ^ 31)
    (h0 : ∀ a b, idx (ix3 a b 0) = BitVec.ofNat 32 a.val) (h1 : ∀ a b, idx (ix3 a b 1) = BitVec.ofNat 32 (g a b).val) (r : Fin R) (c : Fin C) :
    ((∃ b, g r b = c) → Host.scatter d (fun _ b => b) x idx upd (ix2 r c) = v)
      ∧ ((¬ ∃ b, g r b = c) → Host.scatter d (fun _ b => b) x idx upd (ix2 r c) = z) := by
  have lands : ∀ a b, d.resultIdx? (ix2 a b) idx = some (ix2 r c) ↔ a = r ∧ g a b = c := by
    intro a b
    have h0' := h0 a b
    have h1' := h1 a b
    rw [ix3_eq_valueIdx] at h0' h1'
    rw [ix2_eq_valueIdx, ix2_eq_valueIdx, Routing.scatter_lands2 d hiw hsd hivd, h0', h1',
      StableHlo.Predicate.toInt_ofNat_small _ (by have := a.isLt; omega),
      StableHlo.Predicate.toInt_ofNat_small _ (by have := (g a b).isLt; omega), Fin.ext_iff, Fin.ext_iff]
    omega
  refine ⟨fun ⟨b, hb⟩ => ?_, fun h => ?_⟩
  · exact Routing.scatter_set_hit d x idx upd _ v (fun k _ => hupd k) (ix2 r b) ((lands r b).2 ⟨rfl, hb⟩)
  · refine (Routing.scatter_set_miss d x idx upd _ fun k hk => h ?_).trans (hx _)
    rw [eq_ix2 k] at hk
    obtain ⟨e, e'⟩ := (lands _ _).1 hk
    exact ⟨k 1, e ▸ e'⟩

/-- The pairs a reduction of a stack's last axis folds over at `(r, f)` are those at `(r, f, v)`. -/
theorem mem_row {α β : Type} {a b c : Nat} (x : (stack a b c).Idx → α) (y : (stack a b c).Idx → β)
    (h : (stack a b c).ReducesTo [2] (mat a b)) (r : Fin a) (f : Fin b) (p : α × β) :
    p ∈ Host.argReduceFiber x y h (ix2 r f) ↔ ∃ v : Fin c, p = (x (ix3 r f v), y (ix3 r f v)) := by
  have drop0 : ∀ i, (h.drop i 0 : Nat) = i 0 := fun i => rfl
  have drop1 : ∀ i, (h.drop i 1 : Nat) = i 1 := fun i => rfl
  unfold Host.argReduceFiber
  rw [List.mem_map]
  constructor
  · rintro ⟨n, hn, rfl⟩
    have hd : h.drop ((stack a b c).rowMajor.symm n) = ix2 r f := of_decide_eq_true (List.mem_filter.1 hn).2
    generalize (stack a b c).rowMajor.symm n = i at hd ⊢
    have e0 : (i 0 : Nat) = r.val := by rw [← drop0, hd]; rfl
    have e1 : (i 1 : Nat) = f.val := by rw [← drop1, hd]; rfl
    have e : i = ix3 r f (i 2) := by
      rw [eq_ix3 i]
      congr 1
      · exact Fin.ext e0
      · exact Fin.ext e1
    exact ⟨i 2, congrArg (fun k => (x k, y k)) e⟩
  · rintro ⟨v, rfl⟩
    refine ⟨(stack a b c).rowMajor (ix3 r f v), List.mem_filter.2 ⟨List.mem_finRange _, decide_eq_true ?_⟩, by rw [Equiv.symm_apply_apply]⟩
    rw [Equiv.symm_apply_apply]
    refine funext fun q => Fin.ext ?_
    match q with
    | ⟨0, _⟩ => exact drop0 _
    | ⟨1, _⟩ => exact drop1 _

/-- A plain product of two matrices at an index: the sum of the products of the entries. -/
theorem dot_plain {m k n : Nat} (d : DotDims (mat m k) (mat k n) (mat m n)) (hd : d = DotDims.plain m k n)
    (A : FVec Ideal (mat m k) .f32) (B : FVec Ideal (mat k n) .f32) (i : Fin m) (j : Fin n) :
    Host.dotGeneral d none A B (ix2 i j) = ∑ c : Fin k, A (ix2 i c) * B (ix2 c j) := by
  subst hd
  simp only [ix2_eq_valueIdx]
  exact StackMember.dotGeneral_plain_apply none A B i j

/-- A product plus a summand, read at an index. -/
theorem affine {m k n : Nat} (d : DotDims (mat m k) (mat k n) (mat m n)) (hd : d = DotDims.plain m k n)
    (A : FVec Ideal (mat m k) .f32) (T : FVec Ideal (mat k n) .f32) (B F : FVec Ideal (mat m n) .f32)
    (hF : F = addf (Host.dotGeneral d none A T) B) (i : Fin m) (j : Fin n) :
    F (ix2 i j) = (∑ c : Fin k, A (ix2 i c) * T (ix2 c j)) + B (ix2 i j) := by
  rw [hF, ← dot_plain d hd]
  rfl

/-- The same under an entrywise maximum. -/
theorem affine_max {m k n : Nat} (d : DotDims (mat m k) (mat k n) (mat m n)) (hd : d = DotDims.plain m k n)
    (A : FVec Ideal (mat m k) .f32) (T : FVec Ideal (mat k n) .f32) (B Z F : FVec Ideal (mat m n) .f32)
    (hF : F = maximumf (addf (Host.dotGeneral d none A T) B) Z) (i : Fin m) (j : Fin n) :
    F (ix2 i j) = max ((∑ c : Fin k, A (ix2 i c) * T (ix2 c j)) + B (ix2 i j)) (Z (ix2 i j)) := by
  rw [hF, ← dot_plain d hd]
  rfl

/-- The same under an entrywise hyperbolic tangent. -/
theorem affine_tanh {m k n : Nat} (d : DotDims (mat m k) (mat k n) (mat m n)) (hd : d = DotDims.plain m k n)
    (A : FVec Ideal (mat m k) .f32) (T : FVec Ideal (mat k n) .f32) (B F : FVec Ideal (mat m n) .f32)
    (hF : F = Host.tanh (addf (Host.dotGeneral d none A T) B)) (i : Fin m) (j : Fin n) :
    F (ix2 i j) = Ideal.tanh ((∑ c : Fin k, A (ix2 i c) * T (ix2 c j)) + B (ix2 i j)) := by
  rw [hF, ← dot_plain d hd]
  rfl

end Cert.Layout

end
-- ==== Proof.Constants.lean ====
/- The real values of the constants' bit patterns. -/
module

public import Idealize.ShloMosaic.Lib.IdealHost

@[expose] public section

noncomputable section

namespace Cert.Constants

open Idealize.ShloMosaic

/-- The pattern of two. -/
theorem two : Ideal.ofBits .f32 0x40000000#32 = ((2 : ℝ) : EReal) := by
  simp [Ideal.ofBits, Ideal.ieee, -EReal.coe_mul]; norm_num

/-- The pattern of one half. -/
theorem half : Ideal.ofBits .f32 0x3F000000#32 = ((1 / 2 : ℝ) : EReal) := by
  simp [Ideal.ofBits, Ideal.ieee, -EReal.coe_mul]; norm_num

/-- The pattern of infinity. -/
theorem inf : Ideal.ofBits .f32 0x7F800000#32 = ⊤ := by
  simp [Ideal.ofBits, Ideal.ieee]

end Cert.Constants

end
-- ==== Proof.HostValue.lean ====
/- What the kernel's host part hands to the kernel's grid, read at an index. -/
module

public import proofs.«01_k».proof.Proof.HostTerm
public import proofs.«01_k».proof.Proof.HostTables
public import proofs.«01_k».proof.Proof.Layout
public import proofs.«01_k».proof.Proof.Constants

@[expose] public section

set_option maxRecDepth 16384

noncomputable section

namespace Cert.KernelIdeal.HostTerm

open Idealize.ShloMosaic Cert.KernelIdeal Cert.KernelIdeal.Facts₀ Cert.Model Cert.Layout

variable [Cert.KernelIdeal.Facts]

/-- Entry `f` of the first columns. -/
theorem starts_apply (f : Fin 206) : starts (ix1 f) = BitVec.ofNat 32 (start f.val) :=
  (congrArg lit0 (place1 f)).trans (Tables.first f)

/-- The same moved up by `n`. -/
theorem shifted_apply (n : Nat) (f : Fin 206) : shifted (BitVec.ofNat 32 n) (ix1 f) = BitVec.ofNat 32 (start f.val + n) := by
  pointwise [shifted]
  rw [starts_apply]
  exact (BitVec.ofNat_add _ _).symm

/-- Where the column words are the columns `g f`, the weights read are those at `g f`. -/
theorem weightAt_apply (W : FVec Ideal S10x1939 .f32) (s : IVec S206 32) (g : Fin 206 → Fin 1939)
    (hs : ∀ f, s (ix1 f) = BitVec.ofNat 32 (g f).val) (k : Fin 10) (f : Fin 206) : weightAt W s (ix2 k f) = W (ix2 k (g f)) := by
  refine Layout.gather_column gather_S10x1939_S206x1_S10x206_0_1_n_n_1_1_101 rfl rfl rfl rfl rfl rfl W (weightIdx s) k f (g f) ?_ (by norm_num)
  pointwise [weightIdx]
  rw [hs]
  exact wrap_small _ 1939 (by have := (g f).isLt; omega)

/-- The weight of feature `f` at 0. -/
theorem weight0 (W : FVec Ideal S10x1939 .f32) (k : Fin 10) (f : Fin 206) :
    weightAt W starts (ix2 k f) = W (ix2 k ⟨start f, by have := start_lt f; omega⟩) :=
  weightAt_apply W starts (fun f => ⟨start f, by have := start_lt f; omega⟩) starts_apply k f

/-- The weight of feature `f` at 1. -/
theorem weight1 (W : FVec Ideal S10x1939 .f32) (k : Fin 10) (f : Fin 206) :
    weightAt W (shifted 1#32) (ix2 k f) = W (ix2 k ⟨start f + 1, by have := start_lt f; omega⟩) :=
  weightAt_apply W (shifted 1#32) (fun f => ⟨start f + 1, by have := start_lt f; omega⟩) (shifted_apply 1) k f

/-- The weight of feature `f` at 2. -/
theorem weight2 (W : FVec Ideal S10x1939 .f32) (k : Fin 10) (f : Fin 206) :
    weightAt W (shifted 2#32) (ix2 k f) = W (ix2 k ⟨start f + 2, by have := start_lt f; omega⟩) :=
  weightAt_apply W (shifted 2#32) (fun f => ⟨start f + 2, by have := start_lt f; omega⟩) (shifted_apply 2) k f

/-- The quadratic coefficient from the three weights. -/
theorem quad_apply (W : FVec Ideal S10x1939 .f32) (k : Fin 10) (f : Fin 206) :
    quad W (ix2 k f) = Ideal.ofBits .f32 0x3F000000#32
      * ((weightAt W (shifted 2#32) (ix2 k f) - Ideal.ofBits .f32 0x40000000#32 * weightAt W (shifted 1#32) (ix2 k f)) + weightAt W starts (ix2 k f)) := by
  pointwise [quad]

/-- The linear coefficient from the weights and the quadratic one. -/
theorem lin_apply (W : FVec Ideal S10x1939 .f32) (k : Fin 10) (f : Fin 206) :
    lin W (ix2 k f) = (weightAt W (shifted 1#32) (ix2 k f) - weightAt W starts (ix2 k f)) - quad W (ix2 k f) := by
  pointwise [lin]

/-- Index word `f` is the column feature `f` is read from. -/
theorem ohIdx_apply (f : Fin 206) : ohIdx (ix2 f 0) = BitVec.ofNat 32 (oh f).val := by
  pointwise [ohIdx]
  rw [show lit1 (S206.rowMajor (ix1 f)) = BitVec.ofNat 32 (ohCol f.val) from (congrArg lit1 (place1 f)).trans (Tables.column f)]
  exact wrap_small _ 214 (by have := ohCol_lt f; omega)

/-- Index word `i` is the column of the `i`-th unchanged entry. -/
theorem idIdx_apply (i : Fin 8) : idIdx (ix2 i 0) = BitVec.ofNat 32 (idc i).val := by
  pointwise [idIdx]
  rw [show lit2 (S8.rowMajor (ix1 i)) = BitVec.ofNat 32 (104 + i.val) from (congrArg lit2 (place1 i)).trans (Tables.kept i)]
  exact wrap_small _ 214 (by have := i.isLt; omega)

/-- Two different unchanged entries are read from two different columns. -/
theorem idc_injective : Function.Injective idc := fun i i' h => by
  have h' : 104 + i.val = 104 + i'.val := congrArg Fin.val h
  exact Fin.ext (by omega)

/-- The row of a feature's column holds that feature's values. -/
theorem atFeatures_oh (A : FVec Ideal S10x206 .f32) (f : Fin 206) (k : Fin 10) : atFeatures A (ix2 (oh f) k) = A (ix2 k f) := by
  refine (Layout.scatter_row_hit scatter_S214x10_S206x1_S206x10_1_0_0_1 rfl rfl rfl rfl zeros ohIdx
    (transpose S206x10 [1, 0] A transposes_S10x206_S206x10_1_0) oh oh_injective (by norm_num) ohIdx_apply f k).trans ?_
  pointwise

/-- The row of an unchanged entry's column holds zeros. -/
theorem atFeatures_idc (A : FVec Ideal S10x206 .f32) (i : Fin 8) (k : Fin 10) : atFeatures A (ix2 (idc i) k) = 0 := by
  refine (Layout.scatter_row_miss scatter_S214x10_S206x1_S206x10_1_0_0_1 rfl rfl rfl rfl zeros ohIdx
    (transpose S206x10 [1, 0] A transposes_S10x206_S206x10_1_0) oh (by norm_num) ohIdx_apply (idc i) (fun f => oh_ne_idc f i) k).trans ?_
  pointwise [zeros]

/-- Rows written at the unchanged entries' columns leave a feature's row as it was. -/
theorem kept_oh (A : FVec Ideal S214x10 .f32) (B : FVec Ideal S8x10 .f32) (f : Fin 206) (k : Fin 10) :
    Host.scatter scatter_S214x10_S8x1_S8x10_1_0_0_1 (fun _ b => b) A idIdx B (ix2 (oh f) k) = A (ix2 (oh f) k) :=
  Layout.scatter_row_miss scatter_S214x10_S8x1_S8x10_1_0_0_1 rfl rfl rfl rfl A idIdx B idc (by norm_num)
    idIdx_apply (oh f) (fun i h => oh_ne_idc f i h.symm) k

/-- Rows written at the unchanged entries' columns are found there. -/
theorem kept_idc (A : FVec Ideal S214x10 .f32) (B : FVec Ideal S8x10 .f32) (i : Fin 8) (k : Fin 10) :
    Host.scatter scatter_S214x10_S8x1_S8x10_1_0_0_1 (fun _ b => b) A idIdx B (ix2 (idc i) k) = B (ix2 i k) :=
  Layout.scatter_row_hit scatter_S214x10_S8x1_S8x10_1_0_0_1 rfl rfl rfl rfl A idIdx B idc idc_injective (by norm_num) idIdx_apply i k

/-- The first matrix in the two steps it is built in. -/
theorem linMat_steps (W : FVec Ideal S10x1939 .f32) : linMat W
    = Host.scatter scatter_S214x10_S8x1_S8x10_1_0_0_1 (fun _ b => b) (atFeatures (lin W)) idIdx
      (transpose S8x10 [1, 0] (extractStridedSlice S10x8 ![0, 1931] W slices_S10x1939_S10x8_0_1931) transposes_S10x8_S8x10_1_0) := by
  with_unfolding_all rfl

/-- The first matrix at a feature's column. -/
theorem linMat_oh (W : FVec Ideal S10x1939 .f32) (f : Fin 206) (k : Fin 10) : linMat W (ix2 (oh f) k) = lin W (ix2 k f) := by
  rw [linMat_steps, kept_oh, atFeatures_oh]

/-- The first matrix at an unchanged entry's column. -/
theorem linMat_idc (W : FVec Ideal S10x1939 .f32) (i : Fin 8) (k : Fin 10) :
    linMat W (ix2 (idc i) k) = W (ix2 k ⟨1931 + i.val, by omega⟩) := by
  rw [linMat_steps, kept_idc]
  pointwise

/-- The constant row: the bias plus every feature's weight at 0. -/
theorem constRow_apply (W : FVec Ideal S10x1939 .f32) (b : FVec Ideal S10 .f32) (k : Fin 10) :
    constRow W b (ix2 0 k) = b (ix1 k) + ∑ f : Fin 206, weightAt W starts (ix2 k f) := by
  pointwise [constRow]

/-- The kernel's trunk layer before its rectifier is the shared sum plus the bias, on entries the draw allows and finite one-hot weights. -/
theorem trunk_apply (X : Fin 214 → EReal) (W : FVec Ideal S10x1939 .f32) (b : FVec Ideal S10 .f32) (hX : ∀ f, Drawn (X (oh f))) (k : Fin 10)
    (hW : ∀ c : Fin 1939, c.val < 1931 → ∃ r : ℝ, W (ix2 k c) = (r : EReal)) :
    (∑ d : Fin 214, X d * linMat W (ix2 d k)) + (∑ d : Fin 214, (X d * X d) * quadMat W (ix2 d k)) + constRow W b (ix2 0 k)
      = trunk X (fun c => W (ix2 k c)) + b (ix1 k) := by
  rw [constRow_apply]
  exact trunk_quadratic Constants.half Constants.two X (fun c => W (ix2 k c)) (b (ix1 k)) (fun d => linMat W (ix2 d k))
    (fun d => quadMat W (ix2 d k)) (fun f => weightAt W starts (ix2 k f)) (fun f => weightAt W (shifted 1#32) (ix2 k f))
    (fun f => weightAt W (shifted 2#32) (ix2 k f)) hX hW (weight0 W k) (weight1 W k) (weight2 W k)
    (fun f => (linMat_oh W f k).trans ((lin_apply W k f).trans (by rw [quad_apply])))
    (fun i => linMat_idc W i k) (fun f => (atFeatures_oh (quad W) f k).trans (quad_apply W k f)) (fun i => atFeatures_idc (quad W) i k)

end Cert.KernelIdeal.HostTerm

end
-- ==== Proof.RefTables.lean ====
/- The reference's literal tables, each entry in closed form. -/
module

public import proofs.«01_k».proof.Defs
public import proofs.«01_k».proof.Proof.Model

@[expose] public section

set_option maxRecDepth 16384

noncomputable section

namespace Cert.ReferenceIdeal.Tables

open Idealize.ShloMosaic Cert.ReferenceIdeal Cert.Model

/-- Entry `f` of the first table is the column feature `f` is read from. -/
theorem column : ∀ f : Fin 206, lit0 f = BitVec.ofNat 32 (ohCol f.val) := by decide +kernel

/-- Entry `f` of the third table is the first one-hot column of feature `f`. -/
theorem first : ∀ f : Fin 206, lit2 f = BitVec.ofNat 32 (start f.val) := by decide +kernel

/-- Entry `i` of the last table is the column of the `i`-th unchanged entry. -/
theorem kept : ∀ i : Fin 8, lit3 i = BitVec.ofNat 32 (104 + i.val) := by decide +kernel

/-- The first value a feature may take is the word of 0. -/
theorem value0 : ∀ f : Fin 206, lit1 ⟨20 * f.val, by omega⟩ = 0#32 := by decide +kernel

/-- The second is the word of 1. -/
theorem value1 : ∀ f : Fin 206, lit1 ⟨20 * f.val + 1, by omega⟩ = 0x3F800000#32 := by decide +kernel

/-- The third is the word of 2. -/
theorem value2 : ∀ f : Fin 206, lit1 ⟨20 * f.val + 2, by omega⟩ = 0x40000000#32 := by decide +kernel

end Cert.ReferenceIdeal.Tables

end
-- ==== Proof.RefArgmax.lean ====
/- The reference's position of the first true entry: what its pairwise choice gives over a whole row. -/
module

public import proofs.«01_k».proof.Defs
public import proofs.«01_k».proof.Proof.Layout

@[expose] public section

noncomputable section

namespace Cert.ReferenceIdeal.Argmax

open Idealize.ShloMosaic Cert.ReferenceIdeal

/-- A single bit is false or true. -/
theorem bit_cases (b : BitVec 1) : b = 0#1 ∨ b = 1#1 := by
  revert b; decide

/-- From a false pair, a true one is taken. -/
theorem step_take (a : BitVec 1 × BitVec 32) (k : BitVec 32) (ha : a.1 = 0#1) : reducer_argmax_i1_i32 a (1#1, k) = (1#1, k) := by
  obtain ⟨p, i⟩ := a
  dsimp only at ha
  subst ha
  dsimp only [reducer_argmax_i1_i32]
  generalize IntOp.cmpi .slt i k = c
  rw [show IntOp.ori (IntOp.cmpi .ugt 0#1 1#1) (IntOp.cmpi .ne 0#1 0#1) = 0#1 by decide,
    show IntOp.ori 0#1 (IntOp.andi (IntOp.cmpi .eq 0#1 1#1) c) = 0#1 by revert c; decide]
  rfl

/-- From a true pair, a false one is passed over. -/
theorem step_keep (i k : BitVec 32) : reducer_argmax_i1_i32 (1#1, i) (0#1, k) = (1#1, i) := by
  dsimp only [reducer_argmax_i1_i32]
  generalize IntOp.cmpi .slt i k = c
  rw [show IntOp.ori (IntOp.cmpi .ugt 1#1 0#1) (IntOp.cmpi .ne 1#1 1#1) = 1#1 by decide,
    show IntOp.ori 1#1 (IntOp.andi (IntOp.cmpi .eq 1#1 0#1) c) = 1#1 by revert c; decide]
  rfl

/-- Two false pairs give a false one. -/
theorem step_false (i k : BitVec 32) : (reducer_argmax_i1_i32 (0#1, i) (0#1, k)).1 = 0#1 := by
  dsimp only [reducer_argmax_i1_i32]
  decide

/-- Of two true pairs the one of the smaller position is taken. -/
theorem step_both (i k : BitVec 32) : reducer_argmax_i1_i32 (1#1, i) (1#1, k) = (1#1, if i.slt k then i else k) := by
  have e : IntOp.cmpi .slt i k = BitVec.ofBool (i.slt k) := rfl
  dsimp only [reducer_argmax_i1_i32]
  rw [e]
  generalize i.slt k = c
  rw [show IntOp.ori (IntOp.cmpi .ugt 1#1 1#1) (IntOp.cmpi .ne 1#1 1#1) = 0#1 by decide,
    show IntOp.ori 0#1 (IntOp.andi (IntOp.cmpi .eq 1#1 1#1) (BitVec.ofBool c)) = BitVec.ofBool c by revert c; decide]
  cases c <;> rfl

/-- A pair that is false, or true at a position not before `n`. -/
def Late (n : BitVec 32) (p : BitVec 1 × BitVec 32) : Prop := p.1 = 0#1 ∨ p.1 = 1#1 ∧ n.toInt ≤ p.2.toInt

/-- Two late pairs give a late one. -/
theorem late_step {n : BitVec 32} {a b : BitVec 1 × BitVec 32} (ha : Late n a) (hb : Late n b) : Late n (reducer_argmax_i1_i32 a b) := by
  obtain ⟨p, i⟩ := a
  obtain ⟨q, k⟩ := b
  rcases ha with ha | ⟨ha, ha'⟩ <;> rcases hb with hb | ⟨hb, hb'⟩ <;> dsimp only at * <;> subst ha hb
  · exact Or.inl (step_false i k)
  · rw [step_take _ _ rfl]; exact Or.inr ⟨rfl, hb'⟩
  · rw [step_keep]; exact Or.inr ⟨rfl, ha'⟩
  · rw [step_both]
    refine Or.inr ⟨rfl, ?_⟩
    dsimp only
    split_ifs
    · exact ha'
    · exact hb'

/-- Once position `n` is taken, late pairs leave it. -/
theorem fold_taken {n : BitVec 32} (l : List (BitVec 1 × BitVec 32)) (hl : ∀ p ∈ l, Late n p) :
    l.foldl reducer_argmax_i1_i32 (1#1, n) = (1#1, n) := by
  induction l with
  | nil => rfl
  | cons p l ih =>
    rw [List.foldl_cons]
    have hp := hl p List.mem_cons_self
    have e : reducer_argmax_i1_i32 (1#1, n) p = (1#1, n) := by
      obtain ⟨q, k⟩ := p
      rcases hp with hp | ⟨hp, hp'⟩ <;> dsimp only at * <;> subst hp
      · exact step_keep n k
      · rw [step_both]
        split_ifs with h
        · rfl
        · have h' : ¬ n.toInt < k.toInt := fun q => h (decide_eq_true q)
          rw [BitVec.eq_of_toInt_eq (by omega : k.toInt = n.toInt)]
    rw [e]
    exact ih fun p hp => hl p (List.mem_cons_of_mem _ hp)

/-- The fold over pairs among which `n` is true and no earlier one is, from a late pair: `n`. -/
theorem fold_late {n : BitVec 32} (l : List (BitVec 1 × BitVec 32)) (hl : ∀ p ∈ l, Late n p) (hn : (1#1, n) ∈ l)
    (a : BitVec 1 × BitVec 32) (ha : Late n a) : l.foldl reducer_argmax_i1_i32 a = (1#1, n) := by
  induction l generalizing a with
  | nil => exact absurd hn List.not_mem_nil
  | cons p l ih =>
    rw [List.foldl_cons]
    rcases List.mem_cons.1 hn with rfl | hn
    · have e : reducer_argmax_i1_i32 a (1#1, n) = (1#1, n) := by
        obtain ⟨q, k⟩ := a
        rcases ha with ha | ⟨ha, ha'⟩ <;> dsimp only at * <;> subst ha
        · exact step_take _ _ rfl
        · rw [step_both]
          split_ifs with h
          · have h' : k.toInt < n.toInt := of_decide_eq_true h
            omega
          · rfl
      rw [e]
      exact fold_taken l fun p hp => hl p (List.mem_cons_of_mem _ hp)
    · exact ih (fun p hp => hl p (List.mem_cons_of_mem _ hp)) hn _ (late_step ha (hl p List.mem_cons_self))

/-- Where entry `n` of a row is true and no earlier one is, the choice along the row, the positions counted from zero, gives `n`. -/
theorem row_choice {a b c : Nat} (x : IVec (Layout.stack a b c) 1) (h : (Layout.stack a b c).ReducesTo [2] (Layout.mat a b))
    (hu : 0 < S_.numel) (hc : c < 2 ^ 31) (F : IVec (Layout.mat a b) 32)
    (hF : F = fun j => (Host.reduce2 reducer_argmax_i1_i32 x (iotaInDim (Layout.stack a b c) 32 2) (constantI S_ 1 0#1) (constantI S_ 32 0#32) h hu j).2)
    (r : Fin a) (f : Fin b) (n : Fin c) (hn : x (ix3 r f n) = 1#1) (hlt : ∀ v : Fin c, v.val < n.val → x (ix3 r f v) = 0#1) :
    F (ix2 r f) = BitVec.ofNat 32 n.val := by
  have iota : ∀ v : Fin c, iotaInDim (Layout.stack a b c) 32 2 (ix3 r f v) = BitVec.ofNat 32 v.val := fun v => rfl
  have word : ∀ v : Fin c, (BitVec.ofNat 32 v.val).toInt = (v.val : Int) := fun v =>
    StableHlo.Predicate.toInt_ofNat_small _ (by have := v.isLt; omega)
  subst hF
  dsimp only
  rw [Host.reduce2_eq_foldl_fiber]
  refine congrArg Prod.snd (fold_late (n := BitVec.ofNat 32 n.val) _ (fun p hp => ?_) ?_ _ (Or.inl rfl))
  · obtain ⟨v, rfl⟩ := (Layout.mem_row _ _ _ r f p).1 hp
    rcases bit_cases (x (ix3 r f v)) with hv | hv
    · exact Or.inl hv
    · refine Or.inr ⟨hv, ?_⟩
      dsimp only
      rw [iota, word, word]
      by_contra hl
      rw [hlt v (by omega)] at hv
      exact absurd hv (by decide)
  · exact (Layout.mem_row _ _ _ r f _).2 ⟨n, by rw [hn, iota]⟩

end Cert.ReferenceIdeal.Argmax

end
-- ==== Proof.RefValue.lean ====
/- What the reference's two results hold at an index, for an input the draw allows. -/
module

public import proofs.«01_k».proof.Proof.RefTerm
public import proofs.«01_k».proof.Proof.RefTables
public import proofs.«01_k».proof.Proof.RefArgmax
public import proofs.«01_k».proof.Proof.Layout
public import proofs.«01_k».proof.Proof.Constants

@[expose] public section

set_option maxRecDepth 16384

noncomputable section

namespace Cert.ReferenceIdeal.Term

open Idealize.ShloMosaic Cert.ReferenceIdeal Cert.ReferenceIdeal.Facts₀ Cert.Model Cert.Layout

variable [Cert.ReferenceIdeal.Facts]

/-- Index word `f` is the column feature `f` is read from. -/
theorem ohIdx_apply (f : Fin 206) : ohIdx (ix2 f 0) = BitVec.ofNat 32 (oh f).val := by
  pointwise [ohIdx]
  rw [show lit0 (S206.rowMajor (ix1 f)) = BitVec.ofNat 32 (ohCol f.val) from (congrArg lit0 (place1 f)).trans (Tables.column f)]
  exact wrap_small _ 214 (by have := ohCol_lt f; omega)

/-- Every such word is in range. -/
theorem ohOk_apply (f : Fin 206) : ohOk (ix1 f) = 1#1 := by
  pointwise [ohOk]
  rw [Finset.univ_unique, Finset.fold_singleton]
  rw [show (default : Fin 1) = 0 from rfl, ohIdx_apply]
  show IntOp.andi (IntOp.andi (BitVec.ofBool _) (BitVec.ofBool _)) 1#1 = 1#1
  revert f
  decide +kernel

/-- Feature `f` of row `r` is the entry of `x` at the feature's column. -/
theorem ohCols_apply (x : FVec Ideal S16384x214 .f32) (r : Fin 16384) (f : Fin 206) : ohCols x (ix2 r f) = x (ix2 r (oh f)) := by
  pointwise [ohCols]
  rw [ohOk_apply]
  exact Layout.gather_column gather_S16384x214_S206x1_S16384x206_0_1_n_n_1_1_163841 rfl rfl rfl rfl rfl rfl x ohIdx r f (oh f)
    (ohIdx_apply f) (by decide)

/-- Whether an entry equals the `v`-th value its feature may take. -/
theorem hits_apply (x : FVec Ideal S16384x214 .f32) (r : Fin 16384) (f : Fin 206) (v : Fin 20) (w : BitVec 32)
    (hw : lit1 ⟨20 * f.val + v.val, by omega⟩ = w) :
    hits x (ix3 r f v) = BitVec.ofBool (decide (Ideal.ofBits .f32 w = x (ix2 r (oh f)))) := by
  pointwise [hits]
  rw [ohCols_apply, ← hw]
  have bound : 20 * f.val + v.val < 4120 := by omega
  have e : S206x20.rowMajor (ix2 f v) = ⟨20 * f.val + v.val, bound⟩ := by
    refine Fin.ext ((Shape.rowMajor_val_two _).trans ?_)
    exact congrArg (· + v.val) (Nat.mul_comm f.val 20)
  rw [e]

/-- The positions are the second parts of the pairwise choice along each row. -/
theorem firstHit_eq (x : FVec Ideal S16384x214 .f32) :
    firstHit x = fun j => (Host.reduce2 reducer_argmax_i1_i32 (hits x) (iotaInDim S16384x206x20 32 2) (constantI S_ 1 0#1) (constantI S_ 32 0#32)
      reducesTo_S16384x206x20_S16384x206_d2 h_S_ j).2 := by
  with_unfolding_all rfl

/-- Where the entry is one of 0, 1, 2 the first of the feature's values it equals is at that position. -/
theorem firstHit_apply (x : FVec Ideal S16384x214 .f32) (r : Fin 16384) (f : Fin 206) (hx : Drawn (x (ix2 r (oh f)))) :
    firstHit x (ix2 r f) = BitVec.ofNat 32 (digit (x (ix2 r (oh f)))) := by
  have h0 := hits_apply x r f 0 _ (Tables.value0 f)
  have h1 := hits_apply x r f 1 _ (Tables.value1 f)
  have h2 := hits_apply x r f 2 _ (Tables.value2 f)
  rw [Ideal.ofBits_zero_f32] at h0
  rw [Ideal.ofBits_one_f32] at h1
  rw [Constants.two] at h2
  have step := Argmax.row_choice (hits x) reducesTo_S16384x206x20_S16384x206_d2 h_S_ (by norm_num) (firstHit x) (firstHit_eq x) r f
  rcases hx with hx | hx | hx <;> rw [hx] at h0 h1 h2 ⊢
  · rw [digit_zero]
    exact step 0 (h0.trans (by rw [decide_eq_true rfl]; rfl)) fun v hv => absurd hv (Nat.not_lt_zero _)
  · rw [digit_one]
    refine step 1 (h1.trans (by rw [decide_eq_true rfl]; rfl)) fun v hv => ?_
    rw [show v = 0 from Fin.ext (Nat.lt_one_iff.1 hv), h0, decide_eq_false (by exact zero_ne_one)]
    rfl
  · rw [digit_two]
    refine step 2 (h2.trans (by rw [decide_eq_true (by norm_cast)]; rfl)) fun v hv => ?_
    rcases (show v.val = 0 ∨ v.val = 1 by have : v.val < 2 := hv; omega) with e | e
    · rw [show v = 0 from Fin.ext e, h0, decide_eq_false two_ne.1.symm]
      rfl
    · rw [show v = 1 from Fin.ext e, h1, decide_eq_false two_ne.2.symm]
      rfl

/-- The first word of a pair is the row. -/
theorem pairs_row (x : FVec Ideal S16384x214 .f32) (r : Fin 16384) (f : Fin 206) : pairs x (ix3 r f 0) = BitVec.ofNat 32 r.val := by
  pointwise [pairs, catPairs, rowWrap]
  exact wrap_small _ 16384 (by have := r.isLt; omega)

/-- The second is the one-hot column the entry sets. -/
theorem pairs_col (x : FVec Ideal S16384x214 .f32) (r : Fin 16384) (f : Fin 206) (hx : Drawn (x (ix2 r (oh f)))) :
    pairs x (ix3 r f 1) = BitVec.ofNat 32 (hot f (x (ix2 r (oh f)))).val := by
  pointwise [pairs, catPairs, colWrap, col]
  rw [firstHit_apply x r f hx]
  rw [show lit2 (S206.rowMajor (ix1 f)) = BitVec.ofNat 32 (start f.val) from (congrArg lit2 (place1 f)).trans (Tables.first f)]
  rw [show IntOp.addi (BitVec.ofNat 32 (digit (x (ix2 r (oh f))))) (BitVec.ofNat 32 (start f.val))
      = BitVec.ofNat 32 (hot f (x (ix2 r (oh f)))).val from by
    show BitVec.ofNat 32 _ + BitVec.ofNat 32 _ = _
    rw [← BitVec.ofNat_add, Nat.add_comm]
    rfl]
  exact wrap_small _ 1931 (by have := (hot f (x (ix2 r (oh f)))).isLt; omega)

/-- The one-hot matrix is one at the columns the row's entries set, and zero elsewhere. -/
theorem oneHot_apply (x : FVec Ideal S16384x214 .f32) (hx : ∀ r f, Drawn (x (ix2 r (oh f)))) (r : Fin 16384) (c : Fin 1931) :
    oneHot x (ix2 r c) = indicator (∃ f, hot f (x (ix2 r (oh f))) = c) := by
  have step := Layout.scatter_pairs scatter_S16384x1931_S16384x206x2_S16384x206_n_01_01_2 rfl rfl rfl
    (broadcastInDim S16384x1931 ![] bcast_S_S16384x1931 (constant (F := Ideal) S_ .f32 0x00000000#32)) (pairs x)
    (broadcastInDim S16384x206 ![] bcast_S_S16384x206 (constant (F := Ideal) S_ .f32 0x3F800000#32)) (1 : EReal) (0 : EReal)
    (fun k => by pointwise) (fun k => by pointwise) (fun r f => hot f (x (ix2 r (oh f)))) (by norm_num) (by norm_num) (pairs_row x)
    (fun r f => pairs_col x r f (hx r f)) r c
  by_cases h : ∃ f, hot f (x (ix2 r (oh f))) = c
  · rw [indicator_pos h]
    exact step.1 h
  · rw [indicator_neg h]
    exact step.2 h

/-- Index word `i` is the column of the `i`-th unchanged entry. -/
theorem idIdx_apply (i : Fin 8) : idIdx (ix2 i 0) = BitVec.ofNat 32 (idc i).val := by
  pointwise [idIdx]
  rw [show lit3 (S8.rowMajor (ix1 i)) = BitVec.ofNat 32 (104 + i.val) from (congrArg lit3 (place1 i)).trans (Tables.kept i)]
  exact wrap_small _ 214 (by have := i.isLt; omega)

/-- Every such word is in range. -/
theorem idOk_apply (i : Fin 8) : idOk (ix1 i) = 1#1 := by
  pointwise [idOk]
  rw [Finset.univ_unique, Finset.fold_singleton]
  rw [show (default : Fin 1) = 0 from rfl, idIdx_apply]
  show IntOp.andi (IntOp.andi (BitVec.ofBool _) (BitVec.ofBool _)) 1#1 = 1#1
  revert i
  decide +kernel

/-- The `i`-th unchanged entry of row `r`. -/
theorem idCols_apply (x : FVec Ideal S16384x214 .f32) (r : Fin 16384) (i : Fin 8) : idCols x (ix2 r i) = x (ix2 r (idc i)) := by
  pointwise [idCols]
  rw [idOk_apply]
  exact Layout.gather_column gather_S16384x214_S8x1_S16384x8_0_1_n_n_1_1_163841 rfl rfl rfl rfl rfl rfl x idIdx r i (idc i)
    (idIdx_apply i) (by decide)

/-- The features' first 1931 columns are the one-hot ones. -/
theorem feat_oneHot (x : FVec Ideal S16384x214 .f32) (r : Fin 16384) (c : Fin 1931) :
    feat x (ix2 r ⟨c.val, by omega⟩) = oneHot x (ix2 r c) := by
  pointwise [feat, catFeat]

/-- The last eight are the unchanged ones. -/
theorem feat_kept (x : FVec Ideal S16384x214 .f32) (r : Fin 16384) (i : Fin 8) :
    feat x (ix2 r ⟨1931 + i.val, by omega⟩) = x (ix2 r (idc i)) := by
  pointwise [feat, catFeat]
  exact idCols_apply x r i

/-- The trunk layer: the shared sum plus the bias, where positive. -/
theorem hidden_apply (x : FVec Ideal S16384x214 .f32) (W : FVec Ideal S10x1939 .f32) (b : FVec Ideal S10 .f32)
    (hx : ∀ r f, Drawn (x (ix2 r (oh f)))) (r : Fin 16384) (k : Fin 10) :
    hidden x W b (ix2 r k) = max (trunk (fun d => x (ix2 r d)) (fun c => W (ix2 k c)) + b (ix1 k)) 0 := by
  have hW : ∀ c : Fin 1939, transpose S1939x10 [1, 0] W transposes_S10x1939_S1939x10_1_0 (ix2 c k) = W (ix2 k c) := fun c => by pointwise
  refine (Layout.affine_max dot_S16384x1939_S1939x10_S16384x10_1_0_0_1_n_n rfl (feat x)
    (transpose S1939x10 [1, 0] W transposes_S10x1939_S1939x10_1_0)
    (broadcastInDim S16384x10 ![0, 1] bcast_S1x10_S16384x10_0_1 (broadcastInDim S1x10 ![1] bcast_S10_S1x10_1 b))
    (broadcastInDim S16384x10 ![] bcast_S_S16384x10 (constant S_ .f32 0x00000000#32)) (hidden x W b) (by with_unfolding_all rfl) r k).trans ?_
  rw [Finset.sum_congr rfl fun c _ => congrArg (feat x (ix2 r c) * ·) (hW c)]
  rw [trunk_features (fun d => x (ix2 r d)) (fun c => W (ix2 k c)) (fun c => feat x (ix2 r c))
    (fun c => (feat_oneHot x r c).trans (oneHot_apply x hx r c)) (feat_kept x r)]
  pointwise

/-- The first result: the logits head on the trunk. -/
theorem logits_apply (x : FVec Ideal S16384x214 .f32) (W : FVec Ideal S10x1939 .f32) (b : FVec Ideal S10 .f32) (Wl : FVec Ideal S64x10 .f32)
    (bl : FVec Ideal S64 .f32) (r : Fin 16384) (j : Fin 64) :
    logits x W b Wl bl (ix2 r j) = (∑ k : Fin 10, hidden x W b (ix2 r k) * Wl (ix2 j k)) + bl (ix1 j) := by
  refine (Layout.affine dot_S16384x10_S10x64_S16384x64_1_0_0_1_n_n rfl (hidden x W b) (transpose S10x64 [1, 0] Wl transposes_S64x10_S10x64_1_0)
    (broadcastInDim S16384x64 ![0, 1] bcast_S1x64_S16384x64_0_1 (broadcastInDim S1x64 ![1] bcast_S64_S1x64_1 bl))
    (logits x W b Wl bl) (by with_unfolding_all rfl) r j).trans ?_
  pointwise

/-- The second result: the hyperbolic tangent of the value head on the trunk. -/
theorem value_apply (x : FVec Ideal S16384x214 .f32) (W : FVec Ideal S10x1939 .f32) (b : FVec Ideal S10 .f32) (Wv : FVec Ideal S1x10 .f32)
    (bv : FVec Ideal S1 .f32) (r : Fin 16384) :
    value x W b Wv bv (ix2 r 0) = Ideal.tanh ((∑ k : Fin 10, hidden x W b (ix2 r k) * Wv (ix2 0 k)) + bv (ix1 0)) := by
  refine (Layout.affine_tanh dot_S16384x10_S10x1_S16384x1_1_0_0_1_n_n rfl (hidden x W b) (transpose S10x1 [1, 0] Wv transposes_S1x10_S10x1_1_0)
    (broadcastInDim S16384x1 ![0, 1] bcast_S1x1_S16384x1_0_1 (broadcastInDim S1x1 ![1] bcast_S1_S1x1_1 bv))
    (value x W b Wv bv) (by with_unfolding_all rfl) r 0).trans ?_
  pointwise

end Cert.ReferenceIdeal.Term

end
-- ==== Proof.Payload.lean ====
/- What the kernel's body computes from its input blocks, read at an index, and set beside the reference. -/
module

public import proofs.«01_k».proof.Proof.Gen.KernelIdeal.Value
public import proofs.«01_k».proof.Proof.HostValue
public import proofs.«01_k».proof.Proof.RefValue

@[expose] public section

set_option maxRecDepth 16384

noncomputable section

namespace Cert.KernelIdeal.Payload

open Idealize.ShloMosaic Cert.KernelIdeal Cert.KernelIdeal.Gen Cert.Model Cert.KernelIdeal.HostTerm

/-- The trunk layer of a block at row `r`, unit `k`. -/
theorem trunk_point (x0 : FVec Ideal S2048x214 .f32) (x1 x2 : FVec Ideal S214x10 .f32) (x3 : FVec Ideal S1x10 .f32) (r : Fin 2048) (k : Fin 10) :
    k0_pay1 x0 x1 x2 x3 (ix2 r k) = max ((∑ d : Fin 214, x0 (ix2 r d) * x1 (ix2 d k))
      + (∑ d : Fin 214, (x0 (ix2 r d) * x0 (ix2 r d)) * x2 (ix2 d k)) + x3 (ix2 0 k)) 0 := by
  pointwise [k0_pay1]

/-- The first result of a block at row `r`, column `j`. -/
theorem logits_point (x0 : FVec Ideal S2048x214 .f32) (x1 x2 : FVec Ideal S214x10 .f32) (x3 : FVec Ideal S1x10 .f32) (x4 : FVec Ideal S10x64 .f32)
    (x5 : FVec Ideal S1x64 .f32) (r : Fin 2048) (j : Fin 64) :
    k0_pay2 x0 x1 x2 x3 x4 x5 (ix2 r j) = (∑ k : Fin 10, k0_pay1 x0 x1 x2 x3 (ix2 r k) * x4 (ix2 k j)) + x5 (ix2 0 j) := by
  pointwise [k0_pay2]

/-- The second result of a block at row `r`. -/
theorem value_point (x0 : FVec Ideal S2048x214 .f32) (x1 x2 : FVec Ideal S214x10 .f32) (x3 : FVec Ideal S1x10 .f32) (x6 : FVec Ideal S10x1 .f32)
    (x7 : FVec Ideal S1x1 .f32) (r : Fin 2048) :
    k0_pay3 (F := Ideal) x0 x1 x2 x3 x6 x7 (ix2 r 0) = Ideal.tanh ((∑ k : Fin 10, k0_pay1 x0 x1 x2 x3 (ix2 r k) * x6 (ix2 k 0)) + x7 (ix2 0 0)) := by
  pointwise [k0_pay3]

/-- Row `r` of a block that is row `R` of the input has the reference's trunk layer. -/
theorem trunk_reference (X : FVec Ideal S16384x214 .f32) (W : FVec Ideal S10x1939 .f32) (b : FVec Ideal S10 .f32)
    (hX : ∀ r f, Drawn (X (ix2 r (oh f)))) (hW : ∀ (k : Fin 10) (c : Fin 1939), c.val < 1931 → ∃ v : ℝ, W (ix2 k c) = (v : EReal))
    (x0 : FVec Ideal S2048x214 .f32) (r : Fin 2048) (R : Fin 16384) (h0 : ∀ d, x0 (ix2 r d) = X (ix2 R d)) (k : Fin 10) :
    k0_pay1 x0 (linMat W) (quadMat W) (constRow W b) (ix2 r k) = Cert.ReferenceIdeal.Term.hidden X W b (ix2 R k) := by
  rw [trunk_point, Cert.ReferenceIdeal.Term.hidden_apply X W b hX]
  simp only [h0]
  rw [trunk_apply (fun d => X (ix2 R d)) W b (hX R) k (hW k)]

end Cert.KernelIdeal.Payload

end
-- ==== Proof.KernelValue.lean ====
/- The kernel's two result arrays after its run, set beside the reference's. -/
module

public import proofs.«01_k».proof.Proof.HostRun
public import proofs.«01_k».proof.Proof.Payload
public import proofs.«01_k».proof.Proof.Gen.ReferenceIdeal
public import Idealize.ShloMosaic.Lib.Pipeline.ValueKit

@[expose] public section

set_option maxRecDepth 16384

noncomputable section

namespace Cert.KernelIdeal.Whole

open Idealize.ShloMosaic Idealize.ShloMosaic.TcCoe Idealize.SL.Sem Cert.KernelIdeal Cert.KernelIdeal.Gen Cert.Model Cert.KernelIdeal.HostTerm
open Cert.KernelIdeal.Payload
open Idealize.ShloMosaic.Pipeline (Dat)

variable (m : (ℓ : Loc nD τ sig) → Buf (Elt Ideal) ℓ)

/-- Where every window's block lies, at every grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![t.val, 0] ∧ win0_9.index t = ![t.val, 0] ∧ t.val < 8 :=
  (by decide +kernel : ∀ t : Fin grid0.N, _)

/-- Window 1's block of any contents is those contents. -/
theorem whole1 (t : Fin cfg0.N) (A : Vec Ideal S214x10 .f32) : ((cfg0.win 1).blk t).view.read (Elt Ideal) A = A := by
  blk_ext! [idx t]

/-- Window 2's block of any contents is those contents. -/
theorem whole2 (t : Fin cfg0.N) (A : Vec Ideal S214x10 .f32) : ((cfg0.win 2).blk t).view.read (Elt Ideal) A = A := by
  blk_ext! [idx t]

/-- Window 3's block of any contents is those contents. -/
theorem whole3 (t : Fin cfg0.N) (A : Vec Ideal S1x10 .f32) : ((cfg0.win 3).blk t).view.read (Elt Ideal) A = A := by
  blk_ext! [idx t]

/-- Window 4's block of any contents is those contents. -/
theorem whole4 (t : Fin cfg0.N) (A : Vec Ideal S10x64 .f32) : ((cfg0.win 4).blk t).view.read (Elt Ideal) A = A := by
  blk_ext! [idx t]

/-- Window 5's block of any contents is those contents. -/
theorem whole5 (t : Fin cfg0.N) (A : Vec Ideal S1x64 .f32) : ((cfg0.win 5).blk t).view.read (Elt Ideal) A = A := by
  blk_ext! [idx t]

/-- Window 6's block of any contents is those contents. -/
theorem whole6 (t : Fin cfg0.N) (A : Vec Ideal S10x1 .f32) : ((cfg0.win 6).blk t).view.read (Elt Ideal) A = A := by
  blk_ext! [idx t]

/-- Window 7's block of any contents is those contents. -/
theorem whole7 (t : Fin cfg0.N) (A : Vec Ideal S1x1 .f32) : ((cfg0.win 7).blk t).view.read (Elt Ideal) A = A := by
  blk_ext! [idx t]

/-- Window 1's block is the first matrix. -/
theorem block1 (c : Dev nD) (t : Fin cfg0.N) : iblk m c 1 t = linMat (m ((c : Thread nD τ).loc main_arg1)) :=
  (whole1 t (V m c main_v59)).trans (read_linMat m c)

/-- Window 2's block is the second matrix. -/
theorem block2 (c : Dev nD) (t : Fin cfg0.N) : iblk m c 2 t = quadMat (m ((c : Thread nD τ).loc main_arg1)) :=
  (whole2 t (V m c main_v50)).trans (read_quadMat m c)

/-- Window 3's block is the constant row. -/
theorem block3 (c : Dev nD) (t : Fin cfg0.N) :
    iblk m c 3 t = constRow (m ((c : Thread nD τ).loc main_arg1)) (m ((c : Thread nD τ).loc main_arg2)) :=
  (whole3 t (V m c main_v62)).trans (read_constRow m c)

/-- The buffer of window 4 holds the first head's weights turned over. -/
theorem read4 (c : Dev nD) (k : Fin 10) (j : Fin 64) :
    (V m c main_v63 : FVec Ideal S10x64 .f32) (ix2 k j) = (m ((c : Thread nD τ).loc main_arg3) : FVec Ideal S64x10 .f32) (ix2 j k) := by
  entry_read
  pointwise

/-- Window 4's block is the first head's weights turned over. -/
theorem block4 (c : Dev nD) (t : Fin cfg0.N) (k : Fin 10) (j : Fin 64) :
    (iblk m c 4 t : FVec Ideal S10x64 .f32) (ix2 k j) = (m ((c : Thread nD τ).loc main_arg3) : FVec Ideal S64x10 .f32) (ix2 j k) :=
  (congrFun (whole4 t (V m c main_v63)) (ix2 k j)).trans (read4 m c k j)

/-- The buffer of window 5 holds the first head's bias. -/
theorem read5 (c : Dev nD) (j : Fin 64) :
    (V m c main_v64 : FVec Ideal S1x64 .f32) (ix2 0 j) = (m ((c : Thread nD τ).loc main_arg4) : FVec Ideal S64 .f32) (ix1 j) := by
  entry_read
  pointwise

/-- Window 5's block is the first head's bias. -/
theorem block5 (c : Dev nD) (t : Fin cfg0.N) (j : Fin 64) :
    (iblk m c 5 t : FVec Ideal S1x64 .f32) (ix2 0 j) = (m ((c : Thread nD τ).loc main_arg4) : FVec Ideal S64 .f32) (ix1 j) :=
  (congrFun (whole5 t (V m c main_v64)) (ix2 0 j)).trans (read5 m c j)

/-- The buffer of window 6 holds the second head's weights turned over. -/
theorem read6 (c : Dev nD) (k : Fin 10) :
    (V m c main_v65 : FVec Ideal S10x1 .f32) (ix2 k 0) = (m ((c : Thread nD τ).loc main_arg5) : FVec Ideal S1x10 .f32) (ix2 0 k) := by
  entry_read
  pointwise

/-- Window 6's block is the second head's weights turned over. -/
theorem block6 (c : Dev nD) (t : Fin cfg0.N) (k : Fin 10) :
    (iblk m c 6 t : FVec Ideal S10x1 .f32) (ix2 k 0) = (m ((c : Thread nD τ).loc main_arg5) : FVec Ideal S1x10 .f32) (ix2 0 k) :=
  (congrFun (whole6 t (V m c main_v65)) (ix2 k 0)).trans (read6 m c k)

/-- The buffer of window 7 holds the second head's bias. -/
theorem read7 (c : Dev nD)  :
    (V m c main_v66 : FVec Ideal S1x1 .f32) (ix2 0 0) = (m ((c : Thread nD τ).loc main_arg6) : FVec Ideal S1 .f32) (ix1 0) := by
  entry_read
  pointwise

/-- Window 7's block is the second head's bias. -/
theorem block7 (c : Dev nD) (t : Fin cfg0.N)  :
    (iblk m c 7 t : FVec Ideal S1x1 .f32) (ix2 0 0) = (m ((c : Thread nD τ).loc main_arg6) : FVec Ideal S1 .f32) (ix1 0) :=
  (congrFun (whole7 t (V m c main_v66)) (ix2 0 0)).trans (read7 m c )

/-- The input's row that row `r` of block `t` is. -/
def row (t : Fin cfg0.N) (r : Fin 2048) : Fin 16384 := ⟨t.val * 2048 + r.val, by have := (idx t).2.2.2.2.2.2.2.2.2.2; omega⟩

/-- Window 0's block is its rows of the input. -/
theorem block0 (c : Dev nD) (t : Fin cfg0.N) (r : Fin 2048) (d : Fin 214) :
    (iblk m c 0 t : FVec Ideal S2048x214 .f32) (ix2 r d) = (m ((c : Thread nD τ).loc main_arg0) : FVec Ideal S16384x214 .f32) (ix2 (row t r) d) := by
  blk_ext [iblk, V, idx t, row]

/-- The trunk layer of block `t` at its row `r` is the reference's at the input's row. -/
theorem hidden_block (c : Dev nD) (hX : ∀ r f, Drawn ((m ((c : Thread nD τ).loc main_arg0) : FVec Ideal S16384x214 .f32) (ix2 r (oh f))))
    (hW : ∀ (k : Fin 10) (j : Fin 1939), j.val < 1931 → ∃ v : ℝ, (m ((c : Thread nD τ).loc main_arg1) : FVec Ideal S10x1939 .f32) (ix2 k j) = (v : EReal))
    (t : Fin cfg0.N) (r : Fin 2048) (k : Fin 10) :
    k0_pay1 (F := Ideal) (iblk m c 0 t) (iblk m c 1 t) (iblk m c 2 t) (iblk m c 3 t) (ix2 r k)
      = Cert.ReferenceIdeal.Term.hidden (m ((c : Thread nD τ).loc main_arg0)) (m ((c : Thread nD τ).loc main_arg1))
        (m ((c : Thread nD τ).loc main_arg2)) (ix2 (row t r) k) := by
  rw [block1 m c t, block2 m c t, block3 m c t]
  exact trunk_reference _ _ _ hX hW _ r (row t r) (block0 m c t r) k

/-- The first result of block `t` is the reference's first result at the block's place. -/
theorem point8 (c : Dev nD) (hX : ∀ r f, Drawn ((m ((c : Thread nD τ).loc main_arg0) : FVec Ideal S16384x214 .f32) (ix2 r (oh f))))
    (hW : ∀ (k : Fin 10) (j : Fin 1939), j.val < 1931 → ∃ v : ℝ, (m ((c : Thread nD τ).loc main_arg1) : FVec Ideal S10x1939 .f32) (ix2 k j) = (v : EReal))
    (t : Fin cfg0.N) (r : Fin 2048) (j : Fin 64) :
    k0_pay2 (F := Ideal) (iblk m c 0 t) (iblk m c 1 t) (iblk m c 2 t) (iblk m c 3 t) (iblk m c 4 t) (iblk m c 5 t) (ix2 r j)
      = Cert.ReferenceIdeal.Term.logits (m ((c : Thread nD τ).loc main_arg0)) (m ((c : Thread nD τ).loc main_arg1))
        (m ((c : Thread nD τ).loc main_arg2)) (m ((c : Thread nD τ).loc main_arg3)) (m ((c : Thread nD τ).loc main_arg4)) (ix2 (row t r) j) := by
  refine (logits_point _ _ _ _ _ _ r j).trans (Eq.trans ?_ (Cert.ReferenceIdeal.Term.logits_apply _ _ _ _ _ (row t r) j).symm)
  exact congrArg₂ (fun a b : EReal => a + b)
    (Finset.sum_congr rfl fun k _ => congrArg₂ (fun a b : EReal => a * b) (hidden_block m c hX hW t r k) (block4 m c t k j)) (block5 m c t j)

/-- The second result of block `t` is the reference's second result at the block's place. -/
theorem point9 (c : Dev nD) (hX : ∀ r f, Drawn ((m ((c : Thread nD τ).loc main_arg0) : FVec Ideal S16384x214 .f32) (ix2 r (oh f))))
    (hW : ∀ (k : Fin 10) (j : Fin 1939), j.val < 1931 → ∃ v : ℝ, (m ((c : Thread nD τ).loc main_arg1) : FVec Ideal S10x1939 .f32) (ix2 k j) = (v : EReal))
    (t : Fin cfg0.N) (r : Fin 2048) :
    k0_pay3 (F := Ideal) (iblk m c 0 t) (iblk m c 1 t) (iblk m c 2 t) (iblk m c 3 t) (iblk m c 6 t) (iblk m c 7 t) (ix2 r 0)
      = Cert.ReferenceIdeal.Term.value (m ((c : Thread nD τ).loc main_arg0)) (m ((c : Thread nD τ).loc main_arg1))
        (m ((c : Thread nD τ).loc main_arg2)) (m ((c : Thread nD τ).loc main_arg5)) (m ((c : Thread nD τ).loc main_arg6)) (ix2 (row t r) 0) := by
  refine (value_point _ _ _ _ _ _ r).trans (Eq.trans ?_ (Cert.ReferenceIdeal.Term.value_apply _ _ _ _ _ (row t r)).symm)
  exact congrArg Ideal.tanh (congrArg₂ (fun a b : EReal => a + b)
    (Finset.sum_congr rfl fun k _ => congrArg₂ (fun a b : EReal => a * b) (hidden_block m c hX hW t r k) (block6 m c t k)) (block7 m c t))

/-- Where index `(r, j)` of window 8's block `t` lies in its array. -/
theorem place8 (t : Fin cfg0.N) (r : Fin 2048) (j : Fin 64) :
    ((cfg0.win 8).blk t).view.emb (ix2 r j) = (ix2 (row t r) j : S16384x64.Idx) := by
  blk_ext [idx t, row]

/-- Where row `r` of window 9's block `t` lies in its array. -/
theorem place9 (t : Fin cfg0.N) (r : Fin 2048) (j : Fin 1) :
    ((cfg0.win 9).blk t).view.emb (ix2 r j) = (ix2 (row t r) j : S16384x1.Idx) := by
  blk_ext [idx t, row]

/-- The first result array after the run is the reference's first result. -/
theorem final8 (c : Dev nD) (hX : ∀ r f, Drawn ((m ((c : Thread nD τ).loc main_arg0) : FVec Ideal S16384x214 .f32) (ix2 r (oh f))))
    (hW : ∀ (k : Fin 10) (j : Fin 1939), j.val < 1931 → ∃ v : ℝ, (m ((c : Thread nD τ).loc main_arg1) : FVec Ideal S10x1939 .f32) (ix2 k j) = (v : EReal)) :
    (dats m 0 c).arrAt 8 (cfgs 0).N
      = Cert.ReferenceIdeal.Term.logits (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 8 _ (by decide +kernel) fun t _ y => ?_
  blk_simp
  rw [after0_8]
  frame_out
  obtain ⟨r, j, rfl⟩ : ∃ (r : Fin 2048) (j : Fin 64), y = ix2 r j := ⟨y 0, y 1, eq_ix2 y⟩
  exact (point8 m c hX hW t r j).trans (congrArg _ (place8 t r j).symm)

/-- The second result array after the run is the reference's second result. -/
theorem final9 (c : Dev nD) (hX : ∀ r f, Drawn ((m ((c : Thread nD τ).loc main_arg0) : FVec Ideal S16384x214 .f32) (ix2 r (oh f))))
    (hW : ∀ (k : Fin 10) (j : Fin 1939), j.val < 1931 → ∃ v : ℝ, (m ((c : Thread nD τ).loc main_arg1) : FVec Ideal S10x1939 .f32) (ix2 k j) = (v : EReal)) :
    (dats m 0 c).arrAt 9 (cfgs 0).N
      = Cert.ReferenceIdeal.Term.value (m ((c : Thread nD τ).loc main_arg0)) (m ((c : Thread nD τ).loc main_arg1))
        (m ((c : Thread nD τ).loc main_arg2)) (m ((c : Thread nD τ).loc main_arg5)) (m ((c : Thread nD τ).loc main_arg6)) := by
  refine (dats m 0 c).arrAt_eq_of_covers 9 _ (by decide +kernel) fun t _ y => ?_
  blk_simp
  rw [after0_9]
  frame_out
  obtain ⟨r, rfl⟩ : ∃ r : Fin 2048, y = ix2 r 0 := ⟨y 0, (eq_ix2 y).trans (congrArg (ix2 (y 0)) (Subsingleton.elim _ _))⟩
  exact (point9 m c hX hW t r).trans (congrArg _ (place9 t r 0).symm)

end Cert.KernelIdeal.Whole

end
-- ==== Proof.Drawn.lean ====
/- What the precondition says about the argument arrays. -/
module

public import proofs.«01_k».proof.Defs
public import proofs.«01_k».proof.Proof.Model
public import proofs.«01_k».proof.Proof.Constants
public import proofs.«01_k».proof.Proof.Gen.Pre_counts_drawn
public import Idealize.ShloMosaic.Lib.Pointwise

@[expose] public section

set_option maxRecDepth 16384

noncomputable section

namespace Cert.Pre_counts_drawn.Meaning

open Idealize.ShloMosaic Cert.Pre_counts_drawn Cert.Model

variable [Cert.Pre_counts_drawn.Facts]

/-- The test the precondition makes of one entry. -/
theorem drawn_of_test (v : EReal) (h : IntOp.ori (IntOp.ori (BitVec.ofBool (decide (v = 0))) (BitVec.ofBool (decide (v = 1))))
    (BitVec.ofBool (decide (v = Ideal.ofBits .f32 0x40000000#32))) = 1#1) : Drawn v := by
  rw [Constants.two] at h
  by_cases h0 : v = 0
  · exact Or.inl h0
  by_cases h1 : v = 1
  · exact Or.inr (Or.inl h1)
  by_cases h2 : v = ((2 : ℝ) : EReal)
  · exact Or.inr (Or.inr h2)
  rw [decide_eq_false h0, decide_eq_false h1, decide_eq_false h2] at h
  exact absurd h (by decide)

/-- The test the precondition makes of one weight. -/
theorem finite_of_test (v : EReal) (h : BitVec.ofBool (decide (max v (-v) < Ideal.ofBits .f32 0x7F800000#32)) = 1#1) :
    ∃ r : ℝ, v = (r : EReal) := by
  rw [Constants.inf] at h
  have hlt : max v (-v) < ⊤ := by
    by_contra hn
    rw [decide_eq_false hn] at h
    exact absurd h (by decide)
  refine exists_real (fun e => ?_) (fun e => ?_)
  · rw [e] at hlt; simp at hlt
  · rw [e] at hlt; simp at hlt

/-- The first part at an index. -/
theorem part0 (x : FVec Ideal S16384x214 .f32) (W : FVec Ideal S10x1939 .f32) (b : FVec Ideal S10 .f32) (Wl : FVec Ideal S64x10 .f32)
    (bl : FVec Ideal S64 .f32) (Wv : FVec Ideal S1x10 .f32) (bv : FVec Ideal S1 .f32) (r : Fin 16384) (d : Fin 104) :
    (fn x W b Wl bl Wv bv).1 (ix2 r d) = 1#1 → Drawn (x (ix2 r ⟨d.val, by omega⟩)) := by
  pointwise [fn, fn_part1]
  exact drawn_of_test _

/-- The second part at an index. -/
theorem part1 (x : FVec Ideal S16384x214 .f32) (W : FVec Ideal S10x1939 .f32) (b : FVec Ideal S10 .f32) (Wl : FVec Ideal S64x10 .f32)
    (bl : FVec Ideal S64 .f32) (Wv : FVec Ideal S1x10 .f32) (bv : FVec Ideal S1 .f32) (r : Fin 16384) (d : Fin 102) :
    (fn x W b Wl bl Wv bv).2.1 (ix2 r d) = 1#1 → Drawn (x (ix2 r ⟨112 + d.val, by omega⟩)) := by
  pointwise [fn, fn_part1]
  exact drawn_of_test _

/-- The third part at an index. -/
theorem part2 (x : FVec Ideal S16384x214 .f32) (W : FVec Ideal S10x1939 .f32) (b : FVec Ideal S10 .f32) (Wl : FVec Ideal S64x10 .f32)
    (bl : FVec Ideal S64 .f32) (Wv : FVec Ideal S1x10 .f32) (bv : FVec Ideal S1 .f32) (k : Fin 10) (c : Fin 1931) :
    (fn x W b Wl bl Wv bv).2.2 (ix2 k c) = 1#1 → ∃ v : ℝ, W (ix2 k ⟨c.val, by omega⟩) = (v : EReal) := by
  pointwise [fn, fn_part1]
  exact finite_of_test _

/-- Where the precondition holds, every feature's entry is 0, 1 or 2. -/
theorem drawn (x : FVec Ideal S16384x214 .f32) (W : FVec Ideal S10x1939 .f32) (b : FVec Ideal S10 .f32) (Wl : FVec Ideal S64x10 .f32)
    (bl : FVec Ideal S64 .f32) (Wv : FVec Ideal S1x10 .f32) (bv : FVec Ideal S1 .f32)
    (h0 : (fn x W b Wl bl Wv bv).1 = fun _ => 1#1) (h1 : (fn x W b Wl bl Wv bv).2.1 = fun _ => 1#1) (r : Fin 16384) (f : Fin 206) :
    Drawn (x (ix2 r (oh f))) := by
  by_cases hf : f.val < 104
  · have h := part0 x W b Wl bl Wv bv r ⟨f.val, hf⟩ (congrFun h0 _)
    rwa [show (⟨f.val, by omega⟩ : Fin 214) = oh f from Fin.ext (by simp [oh, ohCol, hf])] at h
  · have h := part1 x W b Wl bl Wv bv r ⟨f.val - 104, by omega⟩ (congrFun h1 _)
    rwa [show (⟨112 + (f.val - 104), by omega⟩ : Fin 214) = oh f from Fin.ext (by simp [oh, ohCol, hf]; omega)] at h

/-- Where the precondition holds, every one-hot weight is a real number. -/
theorem finite (x : FVec Ideal S16384x214 .f32) (W : FVec Ideal S10x1939 .f32) (b : FVec Ideal S10 .f32) (Wl : FVec Ideal S64x10 .f32)
    (bl : FVec Ideal S64 .f32) (Wv : FVec Ideal S1x10 .f32) (bv : FVec Ideal S1 .f32)
    (h2 : (fn x W b Wl bl Wv bv).2.2 = fun _ => 1#1) (k : Fin 10) (c : Fin 1939) (hc : c.val < 1931) : ∃ v : ℝ, W (ix2 k c) = (v : EReal) :=
  part2 x W b Wl bl Wv bv k ⟨c.val, hc⟩ (congrFun h2 _)

end Cert.Pre_counts_drawn.Meaning

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_counts_drawn
public import proofs.«01_k».proof.Proof.Gen.KernelIdeal.Value
public import proofs.«01_k».proof.Proof.Frames
public import proofs.«01_k».proof.Proof.KernelValue
public import proofs.«01_k».proof.Proof.Drawn
public import Idealize.ShloMosaic.Lib.Claim
public import Idealize.ShloMosaic.Adequacy
public import Idealize.ShloMosaic.Init

@[expose] public section

noncomputable section

namespace Cert.Proof

open Idealize.ShloMosaic Idealize.SL.Sem Cert.Kernel

open Idealize.ShloMosaic.TcCoe in
/-- Where the precondition holds, the kernel's two results are the reference's two results. -/
theorem algebraic : Cert.algebraic_KernelIdeal_ReferenceIdeal_pre_counts_drawn := by
  intro m g m' g' hpre hagree
  have hX := fun c => Cert.Pre_counts_drawn.Meaning.drawn _ _ _ _ _ _ _ (hpre c).1 (hpre c).2.1
  have hW := fun c => Cert.Pre_counts_drawn.Meaning.finite _ _ _ _ _ _ _ (hpre c).2.2
  refine ⟨fun c => Cert.ReferenceIdeal.Term.logits (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3))
      (m ((c.tc : Thread _ _).loc Cert.KernelIdeal.main_arg4)),
    fun c => Cert.ReferenceIdeal.Term.value (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg5))
      (m ((c.tc : Thread _ _).loc Cert.KernelIdeal.main_arg6)), ?_, ?_⟩
  · refine θ_run_mono (Cert.KernelIdeal.Value.run_blocks m g) fun r h c => ?_
    obtain ⟨h8, h9, hargs⟩ := h c
    exact ⟨h8.trans (Cert.KernelIdeal.Whole.final8 m c (hX c) (hW c)), h9.trans (Cert.KernelIdeal.Whole.final9 m c (hX c) (hW c)), hargs⟩
  · refine θ_run_mono (Cert.ReferenceIdeal.Term.run m' g') fun r h c => ?_
    obtain ⟨h8, h9, hargs⟩ := h c
    obtain ⟨e0, e1, e2, e3, e4, e5, e6⟩ := hagree c
    refine ⟨h8.trans ?_, h9.trans ?_, hargs⟩
    · rw [e0, e1, e2, e3, e4]
    · rw [e0, e1, e2, e5, e6]

/-- All the claims. -/
theorem claim : Cert.Claim := ⟨Cert.Kernel.Gen.facts, Cert.KernelIdeal.Gen.facts, Cert.ReferenceIdeal.Gen.facts, Cert.Pre_counts_drawn.Gen.facts,
  frame_kernel, frame_kernelIdeal, frame_kernelIdeal_pre, frame_reference, frame_reference_pre, trivial, algebraic⟩

end Cert.Proof

end
